-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "qscale" .f32 0x3EB8AA3B#32 (((1 / 4) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x16x16x4 : Shape := ⟨4, ![512, 16, 16, 4]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S128x32 : Shape := ⟨2, ![128, 32]⟩
abbrev S32 : Shape := ⟨1, ![32]⟩
abbrev S_ : Shape := ⟨0, ![]⟩

class Facts : Prop where
  bcast_S_S128 : S_.BroadcastsInDim S128 (![] : Fin 0 → Fin S128.rank)
  slices_S128x384_S128x128_0_256 : S128x384.Slices ![0, 256] S128x128
  bcast_S_S128x128 : S_.BroadcastsInDim S128x128 (![] : Fin 0 → Fin S128x128.rank)
  slices_S384_S128_256 : S384.Slices ![256] S128

variable [Facts]

def fn_part1 {F : FTy → Type} [FloatOps F] (main_v2 : IVec S128 1) (main_v5 : IVec S128 1) (main_v9 : IVec S128x128 1) (main_v13 : IVec S128 1) (main_v16 : IVec S128x128 1) (main_v17 : FVec F S128 .f32) (main_cst_4 : FVec F S_ .f32) : IVec S128 1 × IVec S128 1 × IVec S128x128 1 × IVec S128 1 × IVec S128x128 1 × IVec S128 1 :=
  let main_v18 : FVec F S128 .f32 := broadcastInDim S128 ![] bcast_S_S128 main_cst_4
  let main_v19 : IVec S128 1 := cmpf .olt main_v17 main_v18
  (main_v2, main_v5, main_v9, main_v13, main_v16, main_v19)

def fn {F : FTy → Type} [FloatOps F] (main_arg0 : FVec F S512x16x16x4 .f32) (main_arg1 : FVec F S3x64 .f32) (main_arg2 : FVec F S64 .f32) (main_arg3 : FVec F S64 .f32) (main_arg4 : FVec F S64 .f32) (main_arg5 : FVec F S64x128 .f32) (main_arg6 : FVec F S128 .f32) (main_arg7 : FVec F S128 .f32) (main_arg8 : FVec F S128 .f32) (main_arg9 : FVec F S128x384 .f32) (main_arg10 : FVec F S384 .f32) (main_arg11 : FVec F S128x128 .f32) (main_arg12 : FVec F S128 .f32) (main_arg13 : FVec F S128x128 .f32) (main_arg14 : FVec F S128 .f32) (main_arg15 : FVec F S128x32 .f32) (main_arg16 : FVec F S32 .f32) : IVec S128 1 × IVec S128 1 × IVec S128x128 1 × IVec S128 1 × IVec S128x128 1 × IVec S128 1 :=
  let main_v0 : FVec F S128 .f32 := Host.absf main_arg7
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg8
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128x128 .f32 := (extractStridedSlice S128x128 ![0, 256] · slices_S128x384_S128x128_0_256) main_arg9
  let main_v7 : FVec F S128x128 .f32 := Host.absf main_v6
  let main_cst_1 : FVec F S_ .f32 := constant S_ .f32 0x7F800000#32
  let main_v8 : FVec F S128x128 .f32 := broadcastInDim S128x128 ![] bcast_S_S128x128 main_cst_1
  let main_v9 : IVec S128x128 1 := cmpf .olt main_v7 main_v8
  let main_v10 : FVec F S128 .f32 := (extractStridedSlice S128 ![256] · slices_S384_S128_256) main_arg10
  let main_v11 : FVec F S128 .f32 := Host.absf main_v10
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128x128 .f32 := Host.absf main_arg11
  let main_cst_3 : FVec F S_ .f32 := constant S_ .f32 0x7F800000#32
  let main_v15 : FVec F S128x128 .f32 := broadcastInDim S128x128 ![] bcast_S_S128x128 main_cst_3
  let main_v16 : IVec S128x128 1 := cmpf .olt main_v14 main_v15
  let main_v17 : FVec F S128 .f32 := Host.absf main_arg12
  let main_cst_4 : FVec F S_ .f32 := constant S_ .f32 0x7F800000#32
  fn_part1 (F := F) main_v2 main_v5 main_v9 main_v13 main_v16 main_v17 main_cst_4
-- ==== Kernel.lean ====
abbrev S512x16x16x4 : Shape := ⟨4, ![512, 16, 16, 4]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S128x32 : Shape := ⟨2, ![128, 32]⟩
abbrev S32 : Shape := ⟨1, ![32]⟩
abbrev S512x256x4 : Shape := ⟨3, ![512, 256, 4]⟩
abbrev S512x256x3 : Shape := ⟨3, ![512, 256, 3]⟩
abbrev S131072x3 : Shape := ⟨2, ![131072, 3]⟩
abbrev S512x256x1 : Shape := ⟨3, ![512, 256, 1]⟩
abbrev S512x256 : Shape := ⟨2, ![512, 256]⟩
abbrev S2048 : Shape := ⟨1, ![2048]⟩
abbrev S2048x1 : Shape := ⟨2, ![2048, 1]⟩
abbrev S_ : Shape := ⟨0, ![]⟩
abbrev S1x128 : Shape := ⟨2, ![1, 128]⟩
abbrev S2048x128 : Shape := ⟨2, ![2048, 128]⟩
abbrev S8 : Shape := ⟨1, ![8]⟩
abbrev S8x1 : Shape := ⟨2, ![8, 1]⟩
abbrev S8x128 : Shape := ⟨2, ![8, 128]⟩
abbrev S1x64 : Shape := ⟨2, ![1, 64]⟩
abbrev S1x384 : Shape := ⟨2, ![1, 384]⟩
abbrev S1x32 : Shape := ⟨2, ![1, 32]⟩
abbrev S512x32 : Shape := ⟨2, ![512, 32]⟩
abbrev S8192x3 : Shape := ⟨2, ![8192, 3]⟩
abbrev S32x256 : Shape := ⟨2, ![32, 256]⟩
abbrev S32x32 : Shape := ⟨2, ![32, 32]⟩
abbrev S8192x384 : Shape := ⟨2, ![8192, 384]⟩
abbrev S128x8192 : Shape := ⟨2, ![128, 8192]⟩
abbrev S32x128 : Shape := ⟨2, ![32, 128]⟩
abbrev S32x1 : Shape := ⟨2, ![32, 1]⟩
abbrev S8192x64 : Shape := ⟨2, ![8192, 64]⟩
abbrev S8192 : Shape := ⟨1, ![8192]⟩
abbrev S8192x1 : Shape := ⟨2, ![8192, 1]⟩
abbrev S8192x128 : Shape := ⟨2, ![8192, 128]⟩
abbrev S1x256 : Shape := ⟨2, ![1, 256]⟩
abbrev S256x128 : Shape := ⟨2, ![256, 128]⟩
abbrev S128x256 : Shape := ⟨2, ![128, 256]⟩
abbrev S128x1 : Shape := ⟨2, ![128, 1]⟩
abbrev S128x2048 : Shape := ⟨2, ![128, 2048]⟩
abbrev S256x2048 : Shape := ⟨2, ![256, 2048]⟩
abbrev S1x2048 : Shape := ⟨2, ![1, 2048]⟩
abbrev S256x256 : Shape := ⟨2, ![256, 256]⟩
abbrev S256 : Shape := ⟨1, ![256]⟩
abbrev S256x1 : Shape := ⟨2, ![256, 1]⟩
abbrev S256x16 : Shape := ⟨2, ![256, 16]⟩
abbrev S1 : Shape := ⟨1, ![1]⟩
abbrev S1x1 : Shape := ⟨2, ![1, 1]⟩

abbrev nBuf : Space → Nat
  | .hbm => 103
  | .vmem => 28
  | .smem => 0
  | _ => 0

abbrev bufTy : (tb : Table) → Fin (tcTables nBuf tb) → BufTy
  | .hbm, ⟨0, _⟩ => ⟨S512x16x16x4, .f32⟩
  | .hbm, ⟨1, _⟩ => ⟨S3x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x384, .f32⟩
  | .hbm, ⟨10, _⟩ => ⟨S384, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x32, .f32⟩
  | .hbm, ⟨16, _⟩ => ⟨S32, .f32⟩
  | .hbm, ⟨17, _⟩ => ⟨S512x256x4, .f32⟩
  | .hbm, ⟨18, _⟩ => ⟨S512x256x3, .f32⟩
  | .hbm, ⟨19, _⟩ => ⟨S131072x3, .f32⟩
  | .hbm, ⟨20, _⟩ => ⟨S512x256x1, .f32⟩
  | .hbm, ⟨21, _⟩ => ⟨S512x256, .f32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i1⟩
  | .hbm, ⟨32, _⟩ => ⟨S2048x1, .i32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i1⟩
  | .hbm, ⟨37, _⟩ => ⟨S2048x1, .i1⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S2048x1, .i32⟩
  | .hbm, ⟨42, _⟩ => ⟨S128, .i32⟩
  | .hbm, ⟨43, _⟩ => ⟨S1x128, .i32⟩
  | .hbm, ⟨44, _⟩ => ⟨S_, .i32⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i1⟩
  | .hbm, ⟨52, _⟩ => ⟨S1x128, .i32⟩
  | .hbm, ⟨53, _⟩ => ⟨S1x128, .i32⟩
  | .hbm, ⟨54, _⟩ => ⟨S_, .i32⟩
  | .hbm, ⟨55, _⟩ => ⟨S1x128, .i32⟩
  | .hbm, ⟨56, _⟩ => ⟨S1x128, .i1⟩
  | .hbm, ⟨57, _⟩ => ⟨S1x128, .i1⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S2048x128, .i32⟩
  | .hbm, ⟨63, _⟩ => ⟨S2048x128, .i32⟩
  | .hbm, ⟨64, _⟩ => ⟨S2048x128, .i1⟩
  | .hbm, ⟨65, _⟩ => ⟨S2048x128, .bf16⟩
  | .hbm, ⟨66, _⟩ => ⟨S8, .i32⟩
  | .hbm, ⟨67, _⟩ => ⟨S8x1, .i32⟩
  | .hbm, ⟨68, _⟩ => ⟨S128, .i32⟩
  | .hbm, ⟨69, _⟩ => ⟨S1x128, .i32⟩
  | .hbm, ⟨70, _⟩ => ⟨S_, .i32⟩
  | .hbm, ⟨71, _⟩ => ⟨S_, .i32⟩
  | .hbm, ⟨72, _⟩ => ⟨S1x128, .i32⟩
  | .hbm, ⟨73, _⟩ => ⟨S1x128, .i32⟩
  | .hbm, ⟨74, _⟩ => ⟨S1x128, .i32⟩
  | .hbm, ⟨75, _⟩ => ⟨S_, .i32⟩
  | .hbm, ⟨76, _⟩ => ⟨S1x128, .i32⟩
  | .hbm, ⟨77, _⟩ => ⟨S1x128, .i1⟩
  | .hbm, ⟨78, _⟩ => ⟨S1x128, .i32⟩
  | .hbm, ⟨79, _⟩ => ⟨S1x128, .i32⟩
  | .hbm, ⟨80, _⟩ => ⟨S_, .i32⟩
  | .hbm, ⟨81, _⟩ => ⟨S1x128, .i32⟩
  | .hbm, ⟨82, _⟩ => ⟨S1x128, .i1⟩
  | .hbm, ⟨83, _⟩ => ⟨S1x128, .i1⟩
  | .hbm, ⟨84, _⟩ => ⟨S_, .i32⟩
  | .hbm, ⟨85, _⟩ => ⟨S1x128, .i32⟩
  | .hbm, ⟨86, _⟩ => ⟨S1x128, .i32⟩
  | .hbm, ⟨87, _⟩ => ⟨S1x128, .i32⟩
  | .hbm, ⟨88, _⟩ => ⟨S8x128, .i32⟩
  | .hbm, ⟨89, _⟩ => ⟨S8x128, .i32⟩
  | .hbm, ⟨90, _⟩ => ⟨S8x128, .i1⟩
  | .hbm, ⟨91, _⟩ => ⟨S8x128, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x384, .f32⟩
  | .hbm, ⟨99, _⟩ => ⟨S1x128, .f32⟩
  | .hbm, ⟨100, _⟩ => ⟨S1x128, .f32⟩
  | .hbm, ⟨101, _⟩ => ⟨S1x32, .f32⟩
  | .hbm, ⟨102, _⟩ => ⟨S512x32, .f32⟩
  | .local _ .vmem, ⟨0, _⟩ => ⟨S8192x3, .f32⟩
  | .local _ .vmem, ⟨1, _⟩ => ⟨S8192x3, .f32⟩
  | .local _ .vmem, ⟨2, _⟩ => ⟨S32x256, .f32⟩
  | .local _ .vmem, ⟨3, _⟩ => ⟨S32x256, .f32⟩
  | .local _ .vmem, ⟨4, _⟩ => ⟨S2048x128, .bf16⟩
  | .local _ .vmem, ⟨5, _⟩ => ⟨S8x128, .f32⟩
  | .local _ .vmem, ⟨6, _⟩ => ⟨S3x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x384, .f32⟩
  | .local _ .vmem, ⟨15, _⟩ => ⟨S1x384, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x32, .f32⟩
  | .local _ .vmem, ⟨21, _⟩ => ⟨S1x32, .f32⟩
  | .local _ .vmem, ⟨22, _⟩ => ⟨S32x32, .f32⟩
  | .local _ .vmem, ⟨23, _⟩ => ⟨S32x32, .f32⟩
  | .local _ .vmem, ⟨24, _⟩ => ⟨S8192x384, .bf16⟩
  | .local _ .vmem, ⟨25, _⟩ => ⟨S128x8192, .bf16⟩
  | .local _ .vmem, ⟨26, _⟩ => ⟨S32x128, .f32⟩
  | .local _ .vmem, ⟨27, _⟩ => ⟨S32x1, .f32⟩
  | _, _ => ⟨S512x16x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_1 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x32 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S32x32 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "qscale" => some (((1 / 4) * (Real.log 2)⁻¹ : ℝ) : EReal)
  | _ => none
-- ==== ReferenceIdeal.lean ====
abbrev S512x16x16x4 : Shape := ⟨4, ![512, 16, 16, 4]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S128x32 : Shape := ⟨2, ![128, 32]⟩
abbrev S32 : Shape := ⟨1, ![32]⟩
abbrev S512x256x4 : Shape := ⟨3, ![512, 256, 4]⟩
abbrev S512x256x3 : Shape := ⟨3, ![512, 256, 3]⟩
abbrev S512x256x1 : Shape := ⟨3, ![512, 256, 1]⟩
abbrev S512x256 : Shape := ⟨2, ![512, 256]⟩
abbrev S512x256x64 : Shape := ⟨3, ![512, 256, 64]⟩
abbrev S1x1x64 : Shape := ⟨3, ![1, 1, 64]⟩
abbrev S_ : Shape := ⟨0, ![]⟩
abbrev S512x256x128 : Shape := ⟨3, ![512, 256, 128]⟩
abbrev S1x1x128 : Shape := ⟨3, ![1, 1, 128]⟩
abbrev S512x256x384 : Shape := ⟨3, ![512, 256, 384]⟩
abbrev S1x1x384 : Shape := ⟨3, ![1, 1, 384]⟩
abbrev S512x256x8x16 : Shape := ⟨4, ![512, 256, 8, 16]⟩
abbrev S512x8x256x16 : Shape := ⟨4, ![512, 8, 256, 16]⟩
abbrev S512x8x256x256 : Shape := ⟨4, ![512, 8, 256, 256]⟩
abbrev S512x1x1x256 : Shape := ⟨4, ![512, 1, 1, 256]⟩
abbrev S512x8x256 : Shape := ⟨3, ![512, 8, 256]⟩
abbrev S512x8x256x1 : Shape := ⟨4, ![512, 8, 256, 1]⟩
abbrev S512x128 : Shape := ⟨2, ![512, 128]⟩
abbrev S512x1 : Shape := ⟨2, ![512, 1]⟩
abbrev S1x128 : Shape := ⟨2, ![1, 128]⟩
abbrev S512x32 : Shape := ⟨2, ![512, 32]⟩
abbrev S1x32 : Shape := ⟨2, ![1, 32]⟩

abbrev nBuf : Space → Nat
  | .hbm => 159
  | .vmem => 0
  | .smem => 0
  | _ => 0

abbrev hbmTy0_0 (i : Nat) : BufTy := match i % 128 with
  | 0 => ⟨S512x16x16x4, .f32⟩
  | 1 => ⟨S3x64, .f32⟩
  | 2 => ⟨S64, .f32⟩
  | 3 => ⟨S64, .f32⟩
  | 4 => ⟨S64, .f32⟩
  | 5 => ⟨S64x128, .f32⟩
  | 6 => ⟨S128, .f32⟩
  | 7 => ⟨S128, .f32⟩
  | 8 => ⟨S128, .f32⟩
  | 9 => ⟨S128x384, .f32⟩
  | 10 => ⟨S384, .f32⟩
  | 11 => ⟨S128x128, .f32⟩
  | 12 => ⟨S128, .f32⟩
  | 13 => ⟨S128x128, .f32⟩
  | 14 => ⟨S128, .f32⟩
  | 15 => ⟨S128x32, .f32⟩
  | 16 => ⟨S32, .f32⟩
  | 17 => ⟨S512x256x4, .f32⟩
  | 18 => ⟨S512x256x3, .f32⟩
  | 19 => ⟨S512x256x1, .f32⟩
  | 20 => ⟨S512x256, .f32⟩
  | 21 => ⟨S512x256x64, .f32⟩
  | 22 => ⟨S1x1x64, .f32⟩
  | 23 => ⟨S512x256x64, .f32⟩
  | 24 => ⟨S512x256x64, .f32⟩
  | 25 => ⟨S_, .f32⟩
  | 26 => ⟨S512x256, .f32⟩
  | 27 => ⟨S512x256x1, .f32⟩
  | 28 => ⟨S_, .f32⟩
  | 29 => ⟨S512x256x1, .f32⟩
  | 30 => ⟨S512x256x1, .f32⟩
  | 31 => ⟨S512x256x64, .f32⟩
  | 32 => ⟨S512x256x64, .f32⟩
  | 33 => ⟨S512x256x64, .f32⟩
  | 34 => ⟨S_, .f32⟩
  | 35 => ⟨S512x256, .f32⟩
  | 36 => ⟨S512x256x1, .f32⟩
  | 37 => ⟨S_, .f32⟩
  | 38 => ⟨S512x256x1, .f32⟩
  | 39 => ⟨S512x256x1, .f32⟩
  | 40 => ⟨S512x256x64, .f32⟩
  | 41 => ⟨S512x256x64, .f32⟩
  | 42 => ⟨S_, .f32⟩
  | 43 => ⟨S512x256x1, .f32⟩
  | 44 => ⟨S512x256x1, .f32⟩
  | 45 => ⟨S512x256x1, .f32⟩
  | 46 => ⟨S512x256x64, .f32⟩
  | 47 => ⟨S512x256x64, .f32⟩
  | 48 => ⟨S1x1x64, .f32⟩
  | 49 => ⟨S512x256x64, .f32⟩
  | 50 => ⟨S512x256x64, .f32⟩
  | 51 => ⟨S1x1x64, .f32⟩
  | 52 => ⟨S512x256x64, .f32⟩
  | 53 => ⟨S512x256x64, .f32⟩
  | 54 => ⟨S_, .f32⟩
  | 55 => ⟨S512x256x64, .f32⟩
  | 56 => ⟨S512x256x64, .f32⟩
  | 57 => ⟨S512x256x128, .f32⟩
  | 58 => ⟨S1x1x128, .f32⟩
  | 59 => ⟨S512x256x128, .f32⟩
  | 60 => ⟨S512x256x128, .f32⟩
  | 61 => ⟨S_, .f32⟩
  | 62 => ⟨S512x256, .f32⟩
  | 63 => ⟨S512x256x1, .f32⟩
  | 64 => ⟨S_, .f32⟩
  | 65 => ⟨S512x256x1, .f32⟩
  | 66 => ⟨S512x256x1, .f32⟩
  | 67 => ⟨S512x256x128, .f32⟩
  | 68 => ⟨S512x256x128, .f32⟩
  | 69 => ⟨S512x256x128, .f32⟩
  | 70 => ⟨S_, .f32⟩
  | 71 => ⟨S512x256, .f32⟩
  | 72 => ⟨S512x256x1, .f32⟩
  | 73 => ⟨S_, .f32⟩
  | 74 => ⟨S512x256x1, .f32⟩
  | 75 => ⟨S512x256x1, .f32⟩
  | 76 => ⟨S512x256x128, .f32⟩
  | 77 => ⟨S512x256x128, .f32⟩
  | 78 => ⟨S_, .f32⟩
  | 79 => ⟨S512x256x1, .f32⟩
  | 80 => ⟨S512x256x1, .f32⟩
  | 81 => ⟨S512x256x1, .f32⟩
  | 82 => ⟨S512x256x128, .f32⟩
  | 83 => ⟨S512x256x128, .f32⟩
  | 84 => ⟨S1x1x128, .f32⟩
  | 85 => ⟨S512x256x128, .f32⟩
  | 86 => ⟨S512x256x128, .f32⟩
  | 87 => ⟨S1x1x128, .f32⟩
  | 88 => ⟨S512x256x128, .f32⟩
  | 89 => ⟨S512x256x128, .f32⟩
  | 90 => ⟨S_, .f32⟩
  | 91 => ⟨S512x256x128, .f32⟩
  | 92 => ⟨S512x256x128, .f32⟩
  | 93 => ⟨S512x256x384, .f32⟩
  | 94 => ⟨S1x1x384, .f32⟩
  | 95 => ⟨S512x256x384, .f32⟩
  | 96 => ⟨S512x256x384, .f32⟩
  | 97 => ⟨S512x256x128, .f32⟩
  | 98 => ⟨S512x256x128, .f32⟩
  | 99 => ⟨S512x256x128, .f32⟩
  | 100 => ⟨S512x256x8x16, .f32⟩
  | 101 => ⟨S512x8x256x16, .f32⟩
  | 102 => ⟨S512x256x8x16, .f32⟩
  | 103 => ⟨S512x8x256x16, .f32⟩
  | 104 => ⟨S512x256x8x16, .f32⟩
  | 105 => ⟨S512x8x256x16, .f32⟩
  | 106 => ⟨S512x8x256x256, .f32⟩
  | 107 => ⟨S_, .f32⟩
  | 108 => ⟨S_, .f32⟩
  | 109 => ⟨S512x8x256x256, .f32⟩
  | 110 => ⟨S512x8x256x256, .f32⟩
  | 111 => ⟨S_, .f32⟩
  | 112 => ⟨S512x256, .f32⟩
  | 113 => ⟨S512x256, .i1⟩
  | 114 => ⟨S512x1x1x256, .i1⟩
  | 115 => ⟨S_, .f32⟩
  | 116 => ⟨S_, .f32⟩
  | 117 => ⟨S512x8x256x256, .i1⟩
  | 118 => ⟨S512x8x256x256, .f32⟩
  | 119 => ⟨S512x8x256x256, .f32⟩
  | 120 => ⟨S512x8x256x256, .f32⟩
  | 121 => ⟨S_, .f32⟩
  | 122 => ⟨S512x8x256, .f32⟩
  | 123 => ⟨S512x8x256x1, .f32⟩
  | 124 => ⟨S_, .f32⟩
  | 125 => ⟨S512x8x256x1, .f32⟩
  | 126 => ⟨S512x8x256x1, .f32⟩
  | 127 => ⟨S512x8x256x256, .f32⟩
  | _ => ⟨S512x16x16x4, .f32⟩

abbrev hbmTy0_1 (i : Nat) : BufTy := match i % 128 with
  | 0 => ⟨S512x8x256x256, .f32⟩
  | 1 => ⟨S512x8x256x16, .f32⟩
  | 2 => ⟨S512x256x8x16, .f32⟩
  | 3 => ⟨S512x256x128, .f32⟩
  | 4 => ⟨S512x256x128, .f32⟩
  | 5 => ⟨S1x1x128, .f32⟩
  | 6 => ⟨S512x256x128, .f32⟩
  | 7 => ⟨S512x256x128, .f32⟩
  | 8 => ⟨S512x256x1, .f32⟩
  | 9 => ⟨S512x256x128, .f32⟩
  | 10 => ⟨S512x256x128, .f32⟩
  | 11 => ⟨S_, .f32⟩
  | 12 => ⟨S512x128, .f32⟩
  | 13 => ⟨S_, .f32⟩
  | 14 => ⟨S512x1, .f32⟩
  | 15 => ⟨S_, .f32⟩
  | 16 => ⟨S512x1, .f32⟩
  | 17 => ⟨S512x1, .f32⟩
  | 18 => ⟨S512x128, .f32⟩
  | 19 => ⟨S512x128, .f32⟩
  | 20 => ⟨S512x128, .f32⟩
  | 21 => ⟨S1x128, .f32⟩
  | 22 => ⟨S512x128, .f32⟩
  | 23 => ⟨S512x128, .f32⟩
  | 24 => ⟨S_, .f32⟩
  | 25 => ⟨S512x128, .f32⟩
  | 26 => ⟨S512x128, .f32⟩
  | 27 => ⟨S512x32, .f32⟩
  | 28 => ⟨S1x32, .f32⟩
  | 29 => ⟨S512x32, .f32⟩
  | 30 => ⟨S512x32, .f32⟩
  | _ => ⟨S512x16x16x4, .f32⟩

abbrev hbmTy (i : Nat) : BufTy := match i / 128 with
  | 0 => hbmTy0_0 i
  | 1 => hbmTy0_1 i
  | _ => ⟨S512x16x16x4, .f32⟩

abbrev bufTy : (tb : Table) → Fin (tcTables nBuf tb) → BufTy
  | .hbm, ⟨i, _⟩ => hbmTy i
  | _, _ => ⟨S512x16x16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call0_cst : Ref sig .tc := ⟨.hbm, 54, rfl⟩
abbrev main_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_10 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_11 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v82 : Ref sig .tc := ⟨.hbm, 119, rfl⟩
abbrev main_v83 : Ref sig .tc := ⟨.hbm, 120, rfl⟩
abbrev main_cst_12 : Ref sig .tc := ⟨.hbm, 121, rfl⟩
abbrev main_v84 : Ref sig .tc := ⟨.hbm, 122, rfl⟩
abbrev main_v85 : Ref sig .tc := ⟨.hbm, 123, rfl⟩
abbrev main_cst_13 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_14 : Ref sig .tc := ⟨.hbm, 139, rfl⟩
abbrev main_v100 : Ref sig .tc := ⟨.hbm, 140, rfl⟩
abbrev main_cst_15 : Ref sig .tc := ⟨.hbm, 141, rfl⟩
abbrev main_v101 : Ref sig .tc := ⟨.hbm, 142, rfl⟩
abbrev main_cst_16 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_call3_cst : Ref sig .tc := ⟨.hbm, 152, rfl⟩
abbrev main_call3_v0 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]
-- ==== Proof.Tiles.lean ====
/- Eight equal pieces laid side by side or one below the other, read at an index, and sums over two coordinates at once. -/
module

public import Idealize.ShloMosaic.Lib.Pointwise
public import Idealize.ShloMosaic.Lib.Pipeline.Value
public import Mathlib.Algebra.BigOperators.Fin

@[expose] public section

set_option maxRecDepth 16384

noncomputable section

namespace Cert.Face

open Idealize.ShloMosaic

/-- Eight pieces side by side, read in piece `k` at its column `d`. -/
theorem concat_cols {α : Type} {r w n : ℕ} (f : Fin 8 → (⟨2, ![r, w]⟩ : Shape).Idx → α)
    (h : Shape.Concatenates (([⟨⟨2, ![r, w]⟩, f 0⟩, ⟨⟨2, ![r, w]⟩, f 1⟩, ⟨⟨2, ![r, w]⟩, f 2⟩, ⟨⟨2, ![r, w]⟩, f 3⟩, ⟨⟨2, ![r, w]⟩, f 4⟩,
      ⟨⟨2, ![r, w]⟩, f 5⟩, ⟨⟨2, ![r, w]⟩, f 6⟩, ⟨⟨2, ![r, w]⟩, f 7⟩] : List ((s : Shape) × (s.Idx → α))).map (·.1)) ⟨2, ![r, n]⟩ 1)
    (i : Fin r) (j : Fin n) (k : Fin 8) (d : Fin w) (hj : w * k.val + d.val = j.val) :
    concatenate ⟨2, ![r, n]⟩ 1 [⟨⟨2, ![r, w]⟩, f 0⟩, ⟨⟨2, ![r, w]⟩, f 1⟩, ⟨⟨2, ![r, w]⟩, f 2⟩, ⟨⟨2, ![r, w]⟩, f 3⟩, ⟨⟨2, ![r, w]⟩, f 4⟩,
      ⟨⟨2, ![r, w]⟩, f 5⟩, ⟨⟨2, ![r, w]⟩, f 6⟩, ⟨⟨2, ![r, w]⟩, f 7⟩] h (ix2 i j) = f k (ix2 i d) := by
  refine concatenate_apply_piece (t := ⟨2, ![r, n]⟩) 1 _ h (ix2 i j) k.val (by simp) ⟨2, ![r, w]⟩ (f k) ?_ rfl (w * k.val) ?_ (ix2 i d) ?_ hj
  · fin_cases k <;> rfl
  · have : ((List.replicate k.val w).sum) = w * k.val := by rw [List.sum_replicate]; simp [mul_comm]
    rw [← this]
    fin_cases k <;> rfl
  · intro b hb
    match b with
    | ⟨0, _⟩ => rfl
    | ⟨1, _⟩ => exact absurd rfl hb

/-- Eight pieces one below the other, read in piece `k` at its row `d`. -/
theorem concat_rows {α : Type} {r w n : ℕ} (f : Fin 8 → (⟨2, ![r, w]⟩ : Shape).Idx → α)
    (h : Shape.Concatenates (([⟨⟨2, ![r, w]⟩, f 0⟩, ⟨⟨2, ![r, w]⟩, f 1⟩, ⟨⟨2, ![r, w]⟩, f 2⟩, ⟨⟨2, ![r, w]⟩, f 3⟩, ⟨⟨2, ![r, w]⟩, f 4⟩,
      ⟨⟨2, ![r, w]⟩, f 5⟩, ⟨⟨2, ![r, w]⟩, f 6⟩, ⟨⟨2, ![r, w]⟩, f 7⟩] : List ((s : Shape) × (s.Idx → α))).map (·.1)) ⟨2, ![n, w]⟩ 0)
    (i : Fin n) (j : Fin w) (k : Fin 8) (d : Fin r) (hi : r * k.val + d.val = i.val) :
    concatenate ⟨2, ![n, w]⟩ 0 [⟨⟨2, ![r, w]⟩, f 0⟩, ⟨⟨2, ![r, w]⟩, f 1⟩, ⟨⟨2, ![r, w]⟩, f 2⟩, ⟨⟨2, ![r, w]⟩, f 3⟩, ⟨⟨2, ![r, w]⟩, f 4⟩,
      ⟨⟨2, ![r, w]⟩, f 5⟩, ⟨⟨2, ![r, w]⟩, f 6⟩, ⟨⟨2, ![r, w]⟩, f 7⟩] h (ix2 i j) = f k (ix2 d j) := by
  refine concatenate_apply_piece (t := ⟨2, ![n, w]⟩) 0 _ h (ix2 i j) k.val (by simp) ⟨2, ![r, w]⟩ (f k) ?_ rfl (r * k.val) ?_ (ix2 d j) ?_ hi
  · fin_cases k <;> rfl
  · have : ((List.replicate k.val r).sum) = r * k.val := by rw [List.sum_replicate]; simp [mul_comm]
    rw [← this]
    fin_cases k <;> rfl
  · intro b hb
    match b with
    | ⟨0, _⟩ => exact absurd rfl hb
    | ⟨1, _⟩ => rfl

/-- A sum over `m` groups of `n`. -/
theorem sum_groups {m n N : ℕ} (hN : m * n = N) (f : Fin N → EReal) :
    ∑ x, f x = ∑ a : Fin m, ∑ b : Fin n, f ⟨n * a.val + b.val, by
      have := a.isLt; have := b.isLt
      calc n * a.val + b.val < n * a.val + n := by omega
        _ = n * (a.val + 1) := by ring
        _ ≤ n * m := Nat.mul_le_mul_left _ (by omega)
        _ = N := by rw [Nat.mul_comm, hN]⟩ := by
  subst hN
  rw [← finProdFinEquiv.sum_comp, Fintype.sum_prod_type]
  refine Finset.sum_congr rfl fun a _ => Finset.sum_congr rfl fun b _ => congrArg f (Fin.ext ?_)
  simp [finProdFinEquiv, Nat.add_comm]

/-- A sum over eight groups of which only group `g` has terms that are not zero. -/
theorem sum_one_group {n N : ℕ} (hN : 8 * n = N) (f : Fin N → EReal) (g : Fin 8) (u : Fin n → EReal)
    (h1 : ∀ (x : Fin N) (b : Fin n), x.val = n * g.val + b.val → f x = u b)
    (h0 : ∀ (x : Fin N) (a : Fin 8) (b : Fin n), x.val = n * a.val + b.val → a ≠ g → f x = 0) : ∑ x, f x = ∑ b, u b := by
  rw [sum_groups hN, Finset.sum_eq_single g]
  · exact Finset.sum_congr rfl fun b _ => h1 _ b rfl
  · intro a _ ha
    exact Finset.sum_eq_zero fun b _ => h0 _ a b rfl ha
  · intro h; exact absurd (Finset.mem_univ g) h

end Cert.Face

end
-- ==== Proof.Scalars.lean ====
/- Facts about extended reals that the claim rests on: sums scaled by a nonnegative real, a division by a square root
   against a product with its reciprocal, the two exponentials, and the pooled mean of a projection. -/
module

public import Idealize.ShloMosaic.PureOps.Ideal.Laws
public import Mathlib.Analysis.SpecialFunctions.Pow.Real
public import Mathlib.Data.EReal.Inv

@[expose] public section

noncomputable section

namespace Cert.Face

open Idealize.ShloMosaic

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem of_ne {x : EReal} (ht : x ≠ ⊤) (hb : x ≠ ⊥) : IsReal x := by
  induction x with
  | bot => exact absurd rfl hb
  | top => exact absurd rfl ht
  | coe r => exact ⟨r, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem add {x y : EReal} (hx : IsReal x) (hy : IsReal y) : IsReal (x + y) := by
  obtain ⟨a, rfl⟩ := hx; obtain ⟨b, rfl⟩ := hy
  exact ⟨a + b, (EReal.coe_add a b).symm⟩

theorem sub {x y : EReal} (hx : IsReal x) (hy : IsReal y) : IsReal (x - y) := by
  obtain ⟨a, rfl⟩ := hx; obtain ⟨b, rfl⟩ := hy
  exact ⟨a - b, (EReal.coe_sub a b).symm⟩

theorem mul {x y : EReal} (hx : IsReal x) (hy : IsReal y) : IsReal (x * y) := by
  obtain ⟨a, rfl⟩ := hx; obtain ⟨b, rfl⟩ := hy
  exact ⟨a * b, (EReal.coe_mul a b).symm⟩

theorem max {x y : EReal} (hx : IsReal x) (hy : IsReal y) : IsReal (Max.max x y) := by
  rcases max_choice x y with h | h <;> rw [h] <;> assumption

theorem sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A value whose absolute value is below `⊤` is a real number. -/
theorem of_abs_lt {x : EReal} (h : Max.max x (-x) < ⊤) : IsReal x := by
  refine of_ne ?_ ?_
  · rintro rfl; simp at h
  · rintro rfl; simp at h

end IsReal

/-- If a sum is a real number, so is each of its terms. -/
theorem isReal_of_sum {ι : Type} (s : Finset ι) (f : ι → EReal) (h : IsReal (∑ i ∈ s, f i)) : ∀ i ∈ s, IsReal (f i) := by
  classical
  induction s using Finset.induction_on with
  | empty => intro i hi; simp at hi
  | insert a s ha ih =>
    rw [Finset.sum_insert ha] at h
    have h1 : IsReal (f a) ∧ IsReal (∑ i ∈ s, f i) := by
      generalize hx : f a = x at h
      generalize hy : ∑ i ∈ s, f i = y at h
      induction x with
      | bot => exact absurd (EReal.bot_add y) h.ne_bot
      | top =>
        induction y with
        | bot => exact absurd (EReal.add_bot ⊤) h.ne_bot
        | top => exact absurd EReal.top_add_top h.ne_top
        | coe b => exact absurd (EReal.top_add_coe b) h.ne_top
      | coe a' =>
        induction y with
        | bot => exact absurd (EReal.add_bot _) h.ne_bot
        | top => exact absurd (EReal.coe_add_top a') h.ne_top
        | coe b => exact ⟨⟨a', rfl⟩, ⟨b, rfl⟩⟩
    intro i hi
    rcases Finset.mem_insert.1 hi with rfl | hi
    · exact h1.1
    · exact ih h1.2 i hi

/-- A sum times a nonnegative factor below `⊤` is the sum of the products. -/
theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A linear map whose weights and bias are scaled by a nonnegative real is the scaled linear map. -/
theorem affine_scale {ι : Type} [Fintype ι] (h w : ι → EReal) (b : EReal) {c : ℝ} (h0 : 0 ≤ c) :
    ∑ i, h i * (w i * (c : EReal)) + b * (c : EReal) = (∑ i, h i * w i + b) * (c : EReal) := by
  have h0' : (0 : EReal) ≤ (c : EReal) := EReal.coe_nonneg.2 h0
  rw [EReal.right_distrib_of_nonneg_of_ne_top h0' (EReal.coe_ne_top c), sum_mul_of_nonneg _ _ h0' (EReal.coe_ne_top c)]
  simp only [mul_assoc]

/-- A square is nonnegative. -/
theorem sq_nonneg' (x : EReal) : 0 ≤ x * x := by
  induction x with
  | bot => simp
  | top => simp
  | coe r => rw [← EReal.coe_mul]; exact EReal.coe_nonneg.2 (mul_self_nonneg r)

/-- A value whose square is not `⊤` is a real number. -/
theorem isReal_of_sq {x : EReal} (h : x * x ≠ ⊤) : IsReal x := by
  induction x with
  | bot => simp at h
  | top => simp at h
  | coe r => exact ⟨r, rfl⟩

/-- The quotient by a nonzero real is a product with a real. -/
theorem div_real {y : ℝ} (h : y ≠ 0) (x : EReal) : Ideal.div x (y : EReal) = x * ((1 / y : ℝ) : EReal) :=
  Ideal.div_coe h x

/-- The quotient of a nonnegative value by a positive real is nonnegative. -/
theorem div_nonneg' {x : EReal} (hx : 0 ≤ x) {y : ℝ} (hy : 0 < y) : 0 ≤ Ideal.div x (y : EReal) := by
  rw [div_real hy.ne']
  exact EReal.mul_nonneg hx (EReal.coe_nonneg.2 (by positivity))

/-- At a positive argument, a product with the reciprocal square root is the quotient by the square root. -/
theorem mul_rsqrt {y : EReal} (hy : 0 < y) (d : EReal) : d * Ideal.rsqrt y = Ideal.div d (Ideal.sqrt y) := by
  induction y with
  | bot => exact absurd hy (by simp)
  | top => simp [Ideal.div]
  | coe r =>
    have hr : 0 < r := EReal.coe_pos.1 hy
    have hs : Real.sqrt r ≠ 0 := (Real.sqrt_pos.2 hr).ne'
    rw [Ideal.rsqrt_coe, Ideal.sqrt_coe, if_neg hr.not_gt, if_neg hr.ne', if_neg hr.not_gt, div_real hs, one_div]

/-- A positive real below a nonnegative value leaves it positive. -/
theorem add_pos_real {v : EReal} (hv : 0 ≤ v) {e : ℝ} (he : 0 < e) : 0 < v + (e : EReal) := by
  have h : (e : EReal) ≤ v + (e : EReal) := le_add_of_nonneg_left hv
  exact lt_of_lt_of_le (EReal.coe_pos.2 he) h

/-- The base-two exponential of an argument scaled by `1 / (4 log 2)` is the exponential of a quarter of it. -/
theorem exp2_scale (z : EReal) :
    Ideal.exp2 (z * ((1 / 4 * (Real.log 2)⁻¹ : ℝ) : EReal)) = Ideal.exp (Ideal.div z ((4 : ℝ) : EReal)) := by
  have hl : 0 < Real.log 2 := Real.log_pos (by norm_num)
  have hc : 0 < (1 / 4 * (Real.log 2)⁻¹ : ℝ) := by positivity
  have h4 : (0 : ℝ) < 1 / 4 := by norm_num
  rw [div_real (by norm_num : (4 : ℝ) ≠ 0)]
  induction z with
  | bot => rw [EReal.bot_mul_coe_of_pos hc, EReal.bot_mul_coe_of_pos h4]; rfl
  | top => rw [EReal.top_mul_coe_of_pos hc, EReal.top_mul_coe_of_pos h4]; rfl
  | coe r =>
    rw [← EReal.coe_mul, ← EReal.coe_mul, Ideal.exp2_coe, Ideal.exp_coe]
    congr 1
    rw [Real.rpow_eq_pow]
    rw [Real.rpow_def_of_pos (by norm_num)]
    congr 1
    field_simp

/-- An exponential is nonnegative. -/
theorem exp_nonneg' (z : EReal) : 0 ≤ Ideal.exp z := by
  induction z with
  | bot => simp
  | top => simp
  | coe r => rw [Ideal.exp_coe]; exact EReal.coe_nonneg.2 (Real.exp_pos r).le

/-- The inverse of a positive value is nonnegative. -/
theorem inv_nonneg' {y : EReal} (hy : 0 < y) : 0 ≤ y⁻¹ := EReal.inv_nonneg_of_nonneg hy.le

/-- The inverse of a positive value is not `⊤`. -/
theorem inv_ne_top {y : EReal} (hy : 0 < y) : y⁻¹ ≠ ⊤ := by
  induction y with
  | bot => exact absurd hy (by simp)
  | top => simp
  | coe r => rw [← EReal.coe_inv]; exact EReal.coe_ne_top _

/-- A weighted sum divided afterwards, as a product with the reciprocal, is the sum under the divided weights. -/
theorem sum_mul_recip {ι : Type} [Fintype ι] (e v : ι → EReal) {y : EReal} (hy : 0 < y) :
    (∑ k, e k * v k) * Ideal.div 1 y = ∑ k, Ideal.div (e k) y * v k := by
  have h1 : Ideal.div 1 y = y⁻¹ := by rw [Ideal.div, if_neg hy.ne', one_mul]
  rw [h1, sum_mul_of_nonneg _ _ (inv_nonneg' hy) (inv_ne_top hy)]
  refine Finset.sum_congr rfl fun k _ => ?_
  rw [Ideal.div, if_neg hy.ne', mul_assoc, mul_comm (v k), ← mul_assoc]

/-- The divided weights of nonnegative weights, over their sum and a positive real, are real numbers. -/
theorem isReal_weight {ι : Type} [Fintype ι] (e : ι → EReal) (he : ∀ k, 0 ≤ e k) {c : ℝ} (hc : 0 < c) (k : ι) :
    IsReal (Ideal.div (e k) ((∑ j, e j) + (c : EReal))) := by
  have hS : 0 ≤ ∑ j, e j := Finset.sum_nonneg fun j _ => he j
  have hy := add_pos_real hS hc
  rw [Ideal.div, if_neg hy.ne']
  by_cases ht : (∑ j, e j) = ⊤
  · rw [ht, EReal.top_add_coe, EReal.inv_top, mul_zero]; exact IsReal.zero
  · have hr : IsReal (∑ j, e j) := IsReal.of_ne ht (ne_of_gt (lt_of_lt_of_le (by simp) hS))
    have hk := isReal_of_sum _ e hr k (Finset.mem_univ k)
    obtain ⟨s, hs⟩ := hr
    rw [hs, ← EReal.coe_add, ← EReal.coe_inv]
    exact hk.mul (IsReal.coe _)

/-- The extended real of a real sum is the sum of the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The masked mean of a projection: projecting the masked sum, with the bias times the sum of the mask, gives the masked
    sum of the projections. Both are divided by the sum of the mask and a real. The attention values, the projection and
    its bias are real numbers, the mask is anything. -/
theorem pool_project {ι κ : Type} [Fintype ι] [Fintype κ] (m : ι → EReal) (o : ι → κ → EReal) (w : κ → EReal) (b : EReal)
    (c : ℝ) (ho : ∀ l d, IsReal (o l d)) (hw : ∀ d, IsReal (w d)) (hb : IsReal b) :
    Ideal.div (∑ d, (∑ l, m l * o l d) * w d + b * ∑ l, m l) ((∑ l, m l) + (c : EReal))
      = Ideal.div (∑ l, (∑ d, o l d * w d + b) * m l) ((∑ l, m l) + (c : EReal)) := by
  by_cases hm : IsReal (∑ l, m l)
  · have hm' : ∀ l, IsReal (m l) := fun l => isReal_of_sum _ m hm l (Finset.mem_univ l)
    congr 1
    choose m' hm' using hm'
    choose o' ho' using ho
    choose w' hw' using hw
    obtain ⟨b', rfl⟩ := hb
    simp only [hm', ho', hw', ← EReal.coe_mul, ← coe_sum', ← EReal.coe_add]
    congr 1
    simp only [Finset.sum_mul, add_mul, Finset.sum_add_distrib, Finset.mul_sum]
    rw [Finset.sum_comm]
    congr 1
    refine Finset.sum_congr rfl fun l _ => Finset.sum_congr rfl fun d _ => ?_
    ring
  · have h : ∀ x : EReal, Ideal.div x ((∑ l, m l) + (c : EReal)) = 0 := by
      intro x
      generalize (∑ l, m l) = s at hm ⊢
      induction s with
      | bot => rw [EReal.bot_add, Ideal.div, if_neg (by simp), EReal.inv_bot, mul_zero]
      | top => rw [EReal.top_add_coe, Ideal.div, if_neg (by simp), EReal.inv_top, mul_zero]
      | coe r => exact absurd ⟨r, rfl⟩ hm
    rw [h, h]

end Cert.Face

end
-- ==== Proof.Consts.lean ====
/- What the programs' literal words denote at the ideal instance. -/
module

public import proofs.«01_k».proof.Proof.Scalars

@[expose] public section

noncomputable section

namespace Cert.Face

open Idealize.ShloMosaic

/-- The addend under the square root of a layer norm, as its word denotes it. -/
def tinyNorm : EReal := Ideal.ofBits .f32 0x3727C5AC#32
/-- The addend of an attention denominator, as its word denotes it. -/
def tinyAttn : EReal := Ideal.ofBits .f32 0x0DA24260#32
/-- The addend of the pooling denominator, as its word denotes it. -/
def tinyPool : EReal := Ideal.ofBits .f32 0x322BCC77#32

theorem word_one : Ideal.ofBits .f32 0x3F800000#32 = 1 := by
  simp [Ideal.ofBits, Ideal.ieee, -EReal.coe_mul]; norm_num
theorem word_four_sq : Ideal.ofBits .f32 0x41800000#32 = ((16 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_neg_inf : Ideal.ofBits .f32 0xFF800000#32 = ⊥ := by
  simp [Ideal.ofBits, Ideal.ieee, -EReal.coe_mul]
theorem word_inf : Ideal.ofBits .f32 0x7F800000#32 = ⊤ := by
  simp [Ideal.ofBits, Ideal.ieee, -EReal.coe_mul]
theorem word_zero16 : Ideal.ofBits .bf16 0x0000#16 = 0 := by
  simp [Ideal.ofBits, Ideal.ieee, -EReal.coe_mul]

/-- The layer norm's addend is a positive real. -/
theorem tinyNorm_pos : ∃ e : ℝ, 0 < e ∧ tinyNorm = (e : EReal) := by
  refine ⟨_, ?_, by simp [tinyNorm, Ideal.ofBits, Ideal.ieee, -EReal.coe_mul]; rfl⟩
  positivity
/-- The attention denominator's addend is a positive real. -/
theorem tinyAttn_pos : ∃ e : ℝ, 0 < e ∧ tinyAttn = (e : EReal) := by
  refine ⟨_, ?_, by simp [tinyAttn, Ideal.ofBits, Ideal.ieee, -EReal.coe_mul]; rfl⟩
  positivity
/-- The pooling denominator's addend is a real. -/
theorem tinyPool_real : ∃ e : ℝ, tinyPool = (e : EReal) :=
  ⟨_, by simp [tinyPool, Ideal.ofBits, Ideal.ieee, -EReal.coe_mul]; rfl⟩

/-- The square root of sixteen is four. -/
theorem sqrt_16 : Ideal.sqrt ((16 : ℝ) : EReal) = ((4 : ℝ) : EReal) := by
  rw [Ideal.sqrt_coe, if_neg (by norm_num), show (16 : ℝ) = 4 ^ 2 by norm_num, Real.sqrt_sq (by norm_num)]

end Cert.Face

end
-- ==== Proof.Spec.lean ====
/- One face as a function of its points and the weights: the encoder of a point, the attention of the points of a face,
   the pooled projection and the final layers, over extended reals; and the same with the kernel's order of operations. -/
module

public import proofs.«01_k».proof.Proof.Consts

@[expose] public section

noncomputable section

namespace Cert.Face

open Idealize.ShloMosaic

/-- The weights, by coordinates. -/
@[ext] structure Weights where
  W1 : Fin 3 → Fin 64 → EReal
  b1 : Fin 64 → EReal
  g1 : Fin 64 → EReal
  c1 : Fin 64 → EReal
  W2 : Fin 64 → Fin 128 → EReal
  b2 : Fin 128 → EReal
  g2 : Fin 128 → EReal
  c2 : Fin 128 → EReal
  Wq : Fin 128 → Fin 384 → EReal
  bq : Fin 384 → EReal
  Wo : Fin 128 → Fin 128 → EReal
  bo : Fin 128 → EReal
  Wf1 : Fin 128 → Fin 128 → EReal
  bf1 : Fin 128 → EReal
  Wf2 : Fin 128 → Fin 32 → EReal
  bf2 : Fin 32 → EReal

/-- A vector through a dense layer. -/
def dense {n k : ℕ} (x : Fin n → EReal) (w : Fin n → Fin k → EReal) (b : Fin k → EReal) (j : Fin k) : EReal :=
  ∑ i, x i * w i j + b j

/-- The mean of a vector: its sum over `len`. -/
def mean {n : ℕ} (len : ℝ) (x : Fin n → EReal) : EReal := Ideal.div (∑ i, x i) (len : EReal)

/-- A vector's mean squared deviation. -/
def spread {n : ℕ} (len : ℝ) (x : Fin n → EReal) : EReal := mean len fun i => (x i - mean len x) * (x i - mean len x)

/-- The layer norm, divided by the square root. -/
def norm {n : ℕ} (len : ℝ) (x g b : Fin n → EReal) (j : Fin n) : EReal :=
  Ideal.div (x j - mean len x) (Ideal.sqrt (spread len x + tinyNorm)) * g j + b j

/-- The layer norm, multiplied by the reciprocal square root. -/
def norm' {n : ℕ} (len : ℝ) (x g b : Fin n → EReal) (j : Fin n) : EReal :=
  (x j - mean len x) * Ideal.rsqrt (spread len x + tinyNorm) * g j + b j

/-- The two layer norms agree on every vector. -/
theorem norm'_eq {n : ℕ} {len : ℝ} (hl : 0 < len) (x g b : Fin n → EReal) : norm' len x g b = norm len x g b := by
  funext j
  obtain ⟨e, he, h⟩ := tinyNorm_pos
  have hs : 0 ≤ spread len x := div_nonneg' (Finset.sum_nonneg fun i _ => sq_nonneg' _) hl
  rw [norm', norm, mul_rsqrt (by rw [h]; exact add_pos_real hs he)]

/-- A layer norm with real scale and shift is real, whatever its vector. -/
theorem norm_real {n : ℕ} {len : ℝ} (hl : 0 < len) (x g b : Fin n → EReal) (hg : ∀ j, IsReal (g j)) (hb : ∀ j, IsReal (b j))
    (j : Fin n) : IsReal (norm len x g b j) := by
  obtain ⟨e, he, h⟩ := tinyNorm_pos
  refine IsReal.add (IsReal.mul ?_ (hg j)) (hb j)
  have hs : 0 ≤ ∑ i, (x i - mean len x) * (x i - mean len x) := Finset.sum_nonneg fun i _ => sq_nonneg' _
  by_cases ht : ∑ i, (x i - mean len x) * (x i - mean len x) = ⊤
  · have : spread len x = ⊤ := by
      rw [spread, mean, ht, div_real hl.ne', EReal.top_mul_coe_of_pos (by positivity)]
    rw [this, h, EReal.top_add_coe, Ideal.sqrt_top, Ideal.div, if_neg (by simp), EReal.inv_top, mul_zero]
    exact IsReal.zero
  · have hr := IsReal.of_ne ht (ne_of_gt (lt_of_lt_of_le (by simp) hs))
    have hd : IsReal (x j - mean len x) :=
      isReal_of_sq (isReal_of_sum _ _ hr j (Finset.mem_univ j)).ne_top
    obtain ⟨s, hs'⟩ := hr
    have hs0 : 0 ≤ s := by rw [hs'] at hs; exact EReal.coe_nonneg.1 hs
    have hv : spread len x + tinyNorm = ((s * (1 / len) + e : ℝ) : EReal) := by
      rw [spread, mean, hs', div_real hl.ne', h, ← EReal.coe_mul, ← EReal.coe_add]
    have hp : 0 < s * (1 / len) + e := by positivity
    rw [hv, Ideal.sqrt_coe, if_neg hp.not_gt, div_real (Real.sqrt_pos.2 hp).ne']
    exact hd.mul (IsReal.coe _)

/-- A point's first hidden vector. -/
def hidden1 (p : Weights) (f : Fin 3 → EReal) (j : Fin 64) : EReal := max (norm 64 (dense f p.W1 p.b1) p.g1 p.c1 j) 0

/-- A point's second hidden vector. -/
def hidden2 (p : Weights) (f : Fin 3 → EReal) (j : Fin 128) : EReal :=
  max (norm 128 (dense (hidden1 p f) p.W2 p.b2) p.g2 p.c2 j) 0

/-- A point's queries, keys and values. -/
def qkv (p : Weights) (f : Fin 3 → EReal) : Fin 384 → EReal := dense (hidden2 p f) p.Wq p.bq

/-- Column `d` of head `h`, in a row of queries. -/
def qcol (h : Fin 8) (d : Fin 16) : Fin 384 := ⟨16 * h.val + d.val, by omega⟩
/-- Column `d` of head `h`, in a row of keys. -/
def kcol (h : Fin 8) (d : Fin 16) : Fin 384 := ⟨128 + (16 * h.val + d.val), by omega⟩
/-- Column `c` of the values. -/
def vcol (c : Fin 128) : Fin 384 := ⟨256 + c.val, by omega⟩
/-- The head of a column of the values. -/
def head (c : Fin 128) : Fin 8 := ⟨c.val / 16, by omega⟩

/-- The product of a query with a key, in one head. -/
def score (z : Fin 256 → Fin 384 → EReal) (h : Fin 8) (l k : Fin 256) : EReal :=
  ∑ d : Fin 16, z l (qcol h d) * z k (kcol h d)

/-- The exponential of a scaled score, none where the key's point is masked out. -/
def weight (z : Fin 256 → Fin 384 → EReal) (mk : Fin 256 → EReal) (h : Fin 8) (l k : Fin 256) : EReal :=
  Ideal.exp (if mk k = 0 then ⊥ else Ideal.div (score z h l k) ((4 : ℝ) : EReal))

/-- The attention's value at point `l`, column `c`. -/
def attend (z : Fin 256 → Fin 384 → EReal) (mk : Fin 256 → EReal) (l : Fin 256) (c : Fin 128) : EReal :=
  ∑ k, Ideal.div (weight z mk (head c) l k) ((∑ k', weight z mk (head c) l k') + tinyAttn) * z k (vcol c)

/-- The masked mean over a face's points of the projected attention. -/
def pooled (p : Weights) (o : Fin 256 → Fin 128 → EReal) (mk : Fin 256 → EReal) (j : Fin 128) : EReal :=
  Ideal.div (∑ l, dense (o l) p.Wo p.bo j * mk l) ((∑ l, mk l) + tinyPool)

/-- The final layers. -/
def final (p : Weights) (x : Fin 128 → EReal) : Fin 32 → EReal :=
  dense (fun j => max (dense x p.Wf1 p.bf1 j) 0) p.Wf2 p.bf2

/-- A face's result: of its points' features `f` and mask `mk`. -/
def face (p : Weights) (f : Fin 256 → Fin 3 → EReal) (mk : Fin 256 → EReal) : Fin 32 → EReal :=
  final p (pooled p (attend (fun l => qkv p (f l)) mk) mk)

/-! ## The kernel's order of operations -/

/-- The factor `1 / (4 log 2)` of the queries, one for keys and values. -/
def colScale (j : Fin 384) : EReal := if j.val < 128 then ((1 / 4 * (Real.log 2)⁻¹ : ℝ) : EReal) else 1

/-- A point's second hidden vector, by the kernel's layer norms. -/
def hidden2' (p : Weights) (f : Fin 3 → EReal) (j : Fin 128) : EReal :=
  max (norm' 128 (dense (fun j => max (norm' 64 (dense f p.W1 p.b1) p.g1 p.c1 j) 0) p.W2 p.b2) p.g2 p.c2 j) 0

/-- A point's queries, keys and values, by weights with scaled query columns. -/
def qkv' (p : Weights) (f : Fin 3 → EReal) : Fin 384 → EReal :=
  dense (hidden2' p f) (fun i j => p.Wq i j * colScale j) (fun j => p.bq j * colScale j)

/-- Whether a point counts: one where its mask is not zero. -/
def valid (mk : Fin 256 → EReal) (k : Fin 256) : EReal := if mk k = 0 then 0 else 1

/-- The base-two exponential of a score, times the validity of its key. -/
def weight' (z : Fin 256 → Fin 384 → EReal) (mk : Fin 256 → EReal) (h : Fin 8) (l k : Fin 256) : EReal :=
  Ideal.exp2 (score z h l k) * valid mk k

/-- The attention's value: the weighted sum, then the product with the reciprocal denominator. -/
def attend' (z : Fin 256 → Fin 384 → EReal) (mk : Fin 256 → EReal) (l : Fin 256) (c : Fin 128) : EReal :=
  (∑ k, weight' z mk (head c) l k * z k (vcol c)) * Ideal.div 1 ((∑ k', weight' z mk (head c) l k') + tinyAttn)

/-- The masked sum of the attention, projected, with the bias times the sum of the mask, over that sum. -/
def pooled' (p : Weights) (o : Fin 256 → Fin 128 → EReal) (mk : Fin 256 → EReal) (j : Fin 128) : EReal :=
  Ideal.div (∑ c, (∑ l, mk l * o l c) * p.Wo c j + p.bo j * ∑ l, mk l) ((∑ l, mk l) + tinyPool)

/-- A face's result in the kernel's order. -/
def face' (p : Weights) (f : Fin 256 → Fin 3 → EReal) (mk : Fin 256 → EReal) : Fin 32 → EReal :=
  final p (pooled' p (attend' (fun l => qkv' p (f l)) mk) mk)

/-! ## The two agree -/

theorem hidden2'_eq (p : Weights) (f : Fin 3 → EReal) : hidden2' p f = hidden2 p f := by
  funext j
  simp only [hidden2', hidden2, norm'_eq (by norm_num : (0 : ℝ) < 64), norm'_eq (by norm_num : (0 : ℝ) < 128)]
  rfl

/-- The scaled weights give the scaled queries, and the keys and values as they are. -/
theorem qkv'_eq (p : Weights) (f : Fin 3 → EReal) (j : Fin 384) : qkv' p f j = qkv p f j * colScale j := by
  unfold qkv' qkv dense
  rw [hidden2'_eq]
  have hl := Real.log_pos (show (1 : ℝ) < 2 by norm_num)
  by_cases h : j.val < 128
  · have hs : colScale j = ((1 / 4 * (Real.log 2)⁻¹ : ℝ) : EReal) := if_pos h
    have h0 : (0 : ℝ) ≤ 1 / 4 * (Real.log 2)⁻¹ := by positivity
    simp only [hs]
    exact affine_scale (hidden2 p f) (fun i => p.Wq i j) (p.bq j) h0
  · have hs : colScale j = 1 := if_neg h
    simp only [hs, mul_one]

/-- A score of the scaled queries is the scaled score. -/
theorem score_scaled (z : Fin 256 → Fin 384 → EReal) (h : Fin 8) (l k : Fin 256) :
    score (fun l j => z l j * colScale j) h l k = score z h l k * ((1 / 4 * (Real.log 2)⁻¹ : ℝ) : EReal) := by
  have hl := Real.log_pos (show (1 : ℝ) < 2 by norm_num)
  unfold score
  rw [sum_mul_of_nonneg _ _ (EReal.coe_nonneg.2 (by positivity)) (EReal.coe_ne_top _)]
  refine Finset.sum_congr rfl fun d _ => ?_
  have h1 : colScale (qcol h d) = ((1 / 4 * (Real.log 2)⁻¹ : ℝ) : EReal) := if_pos (by show 16 * h.val + d.val < 128; omega)
  have h2 : colScale (kcol h d) = 1 := if_neg (by show ¬(128 + (16 * h.val + d.val) < 128); omega)
  show z l (qcol h d) * colScale (qcol h d) * (z k (kcol h d) * colScale (kcol h d)) = _
  rw [h1, h2, mul_one, mul_assoc, mul_assoc, mul_comm (((1 / 4 * (Real.log 2)⁻¹ : ℝ) : EReal))]

/-- The two kinds of weights agree. -/
theorem weight'_eq (z : Fin 256 → Fin 384 → EReal) (mk : Fin 256 → EReal) (h : Fin 8) (l k : Fin 256) :
    weight' (fun l j => z l j * colScale j) mk h l k = weight z mk h l k := by
  unfold weight' weight valid
  rw [score_scaled, exp2_scale]
  split
  · rw [mul_zero]; rfl
  · rw [mul_one]

theorem weight_nonneg (z : Fin 256 → Fin 384 → EReal) (mk : Fin 256 → EReal) (h : Fin 8) (l k : Fin 256) :
    0 ≤ weight z mk h l k := exp_nonneg' _

/-- The two attentions agree. -/
theorem attend'_eq (z : Fin 256 → Fin 384 → EReal) (mk : Fin 256 → EReal) (l : Fin 256) (c : Fin 128) :
    attend' (fun l j => z l j * colScale j) mk l c = attend z mk l c := by
  obtain ⟨e, he, h⟩ := tinyAttn_pos
  have h2 : colScale (vcol c) = 1 := if_neg (by show ¬(256 + c.val < 128); omega)
  unfold attend' attend
  simp only [weight'_eq, h2, mul_one]
  exact sum_mul_recip _ _ (by
    rw [h]; exact add_pos_real (Finset.sum_nonneg fun k _ => weight_nonneg z mk _ l k) he)

/-- The weights that the claim needs to be real numbers. -/
structure Weights.Finite (p : Weights) : Prop where
  g2 : ∀ j, IsReal (p.g2 j)
  c2 : ∀ j, IsReal (p.c2 j)
  Wv : ∀ i (c : Fin 128), IsReal (p.Wq i (vcol c))
  bv : ∀ c : Fin 128, IsReal (p.bq (vcol c))
  Wo : ∀ i j, IsReal (p.Wo i j)
  bo : ∀ j, IsReal (p.bo j)

theorem dense_real {n k : ℕ} (x : Fin n → EReal) (w : Fin n → Fin k → EReal) (b : Fin k → EReal) (j : Fin k)
    (hx : ∀ i, IsReal (x i)) (hw : ∀ i, IsReal (w i j)) (hb : IsReal (b j)) : IsReal (dense x w b j) :=
  (IsReal.sum _ _ fun i _ => (hx i).mul (hw i)).add hb

/-- Every value is real, whatever the points are. -/
theorem value_real (p : Weights) (hp : p.Finite) (f : Fin 3 → EReal) (c : Fin 128) : IsReal (qkv p f (vcol c)) :=
  dense_real _ _ _ _ (fun j => (norm_real (by norm_num) _ _ _ hp.g2 hp.c2 j).max IsReal.zero) (fun i => hp.Wv i c) (hp.bv c)

/-- The attention of real values is real. -/
theorem attend_real (z : Fin 256 → Fin 384 → EReal) (mk : Fin 256 → EReal) (hz : ∀ k c, IsReal (z k (vcol c)))
    (l : Fin 256) (c : Fin 128) : IsReal (attend z mk l c) := by
  obtain ⟨e, he, h⟩ := tinyAttn_pos
  refine IsReal.sum _ _ fun k _ => IsReal.mul ?_ (hz k c)
  rw [h]
  exact isReal_weight _ (weight_nonneg z mk _ l) he k

/-- A face's result is the same in both orders. -/
theorem face'_eq (p : Weights) (hp : p.Finite) (f : Fin 256 → Fin 3 → EReal) (mk : Fin 256 → EReal) :
    face' p f mk = face p f mk := by
  have h1 : (fun l => qkv' p (f l)) = fun l j => qkv p (f l) j * colScale j := by
    funext l j; exact qkv'_eq p (f l) j
  unfold face' face
  congr 1
  funext j
  rw [h1]
  have h2 : attend' (fun l j => qkv p (f l) j * colScale j) mk = attend (fun l => qkv p (f l)) mk := by
    funext l c; exact attend'_eq _ _ _ _
  rw [h2]
  obtain ⟨e, h⟩ := tinyPool_real
  unfold pooled' pooled dense
  rw [h]
  exact pool_project mk _ (fun c => p.Wo c j) (p.bo j) e (attend_real _ _ fun k c => value_real p hp (f k) c)
    (fun c => hp.Wo c j) (hp.bo j)

end Cert.Face

end
-- ==== Proof.FaceOp.lean ====
/- One face's part of the kernel's body, as one function of the face's queries, keys, values and mask: the vector operations, and
   their value at an index. -/
module

public import proofs.«01_k».proof.Proof.Tiles
public import proofs.«01_k».proof.Proof.Spec
public import proofs.«01_k».proof.Proof.Gen.KernelIdeal.Skeleton

@[expose] public section

set_option maxRecDepth 16384

noncomputable section

namespace Cert.KernelIdeal.Faces

open Idealize.ShloMosaic Cert.KernelIdeal Cert.KernelIdeal.Gen Cert.Face

section Ops

variable {F : FTy → Type} [FloatOps F]

/-- The rows of the keys, counted. -/
abbrev rowNo : IVec S128x1 32 := iota .tc S128x1 32 [0] iota_S128x1_d0_w32

/-- The sign of a row's number, less that of sixteen. -/
abbrev signs : IVec S128x1 1 :=
  cmpi .ne (subi (extui 32 (cmpi .sgt rowNo (broadcast S128x1 0#32)) natLt_1_32) (extui 32 (cmpi .slt rowNo (broadcast S128x1 0#32)) natLt_1_32))
    (broadcast S128x1 (Scalar.subi (Scalar.extui (Scalar.cmpi .sgt 16#32 0#32)) (Scalar.extui (Scalar.cmpi .slt 16#32 0#32))))

/-- The head of every row of the keys: its number over sixteen, rounded down. -/
abbrev rowHead : IVec S128x1 32 :=
  select (andi signs (cmpi .ne (remsi rowNo (broadcast S128x1 16#32)) (broadcast S128x1 0#32)))
    (subi (divsi rowNo (broadcast S128x1 16#32)) (broadcast S128x1 1#32)) (divsi rowNo (broadcast S128x1 16#32))

/-- The rows of one head. -/
abbrev headRows (h : BitVec 32) : IVec S128x1 1 :=
  shapeCast S128x1 (cmpi .eq rowHead (broadcast S128x1 h)) shapeCasts_S128x1_S128x1

/-- The keys with every row outside one head zero. -/
abbrev keyBlock (kt : FVec F S128x256 .bf16) (h : BitVec 32) : FVec F S128x256 .bf16 :=
  select (broadcastTo S128x256 (headRows h) broadcasts_S128x1_S128x256) kt (broadcast S128x256 (Scalar.ofBits .bf16 0x0000#16))

/-- The eight heads' keys, side by side. -/
abbrev keyBlocks (kt : FVec F S128x256 .bf16) : FVec F S128x2048 .bf16 :=
  concatenate S128x2048 1 [⟨S128x256, keyBlock kt 0#32⟩, ⟨S128x256, keyBlock kt 1#32⟩, ⟨S128x256, keyBlock kt 2#32⟩,
    ⟨S128x256, keyBlock kt 3#32⟩, ⟨S128x256, keyBlock kt 4#32⟩, ⟨S128x256, keyBlock kt 5#32⟩, ⟨S128x256, keyBlock kt 6#32⟩,
    ⟨S128x256, keyBlock kt 7#32⟩]
    concatenates_S128x256_S128x256_S128x256_S128x256_S128x256_S128x256_S128x256_S128x256_S128x2048_d1

/-- The mask as zeros and ones. -/
abbrev validRow (m : FVec F S1x256 .f32) : FVec F S1x256 .bf16 :=
  truncf .bf16 (sitofp .f32 (extui 32 (cmpf .one (shapeCast S1x256 m shapeCasts_S1x256_S1x256)
    (broadcast S1x256 (Scalar.ofBits .f32 0x00000000#32))) natLt_1_32)) bitsLt_bf16_f32

/-- The exponentials of all heads' scores, zero where the mask is. -/
abbrev expAll (q : FVec F S256x128 .bf16) (kt : FVec F S128x256 .bf16) (m : FVec F S1x256 .f32) : FVec F S256x2048 .bf16 :=
  mulf (truncf .bf16 (exp2 (matmul dot_S256x128_S128x2048_S256x2048_1_0_0_1_n_n none q (keyBlocks kt)
      (constant S256x2048 .f32 0x00000000#32))) bitsLt_bf16_f32)
    (broadcastTo S256x2048 (concatenate S1x2048 1 [⟨S1x256, validRow m⟩, ⟨S1x256, validRow m⟩, ⟨S1x256, validRow m⟩, ⟨S1x256, validRow m⟩,
      ⟨S1x256, validRow m⟩, ⟨S1x256, validRow m⟩, ⟨S1x256, validRow m⟩, ⟨S1x256, validRow m⟩]
      concatenates_S1x256_S1x256_S1x256_S1x256_S1x256_S1x256_S1x256_S1x256_S1x2048_d1) broadcasts_S1x2048_S256x2048)

/-- One head's reciprocal denominators, from the column on at which the head's exponentials begin. -/
abbrev recip (off : ℕ) (hs : S256x2048.Slices ![0, off] S256x256) (e : FVec F S256x2048 .bf16) : FVec F S256x16 .f32 :=
  broadcastTo S256x16 (shapeCast S256x1 (divf (broadcast S256x1 (Scalar.ofBits .f32 0x3F800000#32))
    (addf (shapeCast S256x1 (multiReduction .add [1] S256 (extf .f32 (extractStridedSlice S256x256 ![0, off] e hs) bitsLt_bf16_f32)
      0x00000000#32 reduces_S256x256_S256 (.inl rfl) rfl) shapeCasts_S256_S256x1) (broadcast S256x1 (Scalar.ofBits .f32 0x0DA24260#32))))
    shapeCasts_S256x1_S256x1) broadcasts_S256x1_S256x16

/-- All heads' reciprocal denominators, side by side. -/
abbrev recips (e : FVec F S256x2048 .bf16) : FVec F S256x128 .f32 :=
  concatenate S256x128 1 [⟨S256x16, recip 0 slices_S256x2048_o0_0_S256x256 e⟩, ⟨S256x16, recip 256 slices_S256x2048_o0_256_S256x256 e⟩,
    ⟨S256x16, recip 512 slices_S256x2048_o0_512_S256x256 e⟩, ⟨S256x16, recip 768 slices_S256x2048_o0_768_S256x256 e⟩,
    ⟨S256x16, recip 1024 slices_S256x2048_o0_1024_S256x256 e⟩, ⟨S256x16, recip 1280 slices_S256x2048_o0_1280_S256x256 e⟩,
    ⟨S256x16, recip 1536 slices_S256x2048_o0_1536_S256x256 e⟩, ⟨S256x16, recip 1792 slices_S256x2048_o0_1792_S256x256 e⟩]
    concatenates_S256x16_S256x16_S256x16_S256x16_S256x16_S256x16_S256x16_S256x16_S256x128_d1

/-- The values eight times one below the other, each with only its head's columns. -/
abbrev valueBlocks (v : FVec F S256x128 .bf16) (hm : FVec F S2048x128 .bf16) : FVec F S2048x128 .bf16 :=
  mulf (concatenate S2048x128 0 [⟨S256x128, v⟩, ⟨S256x128, v⟩, ⟨S256x128, v⟩, ⟨S256x128, v⟩, ⟨S256x128, v⟩, ⟨S256x128, v⟩, ⟨S256x128, v⟩,
    ⟨S256x128, v⟩] concatenates_S256x128_S256x128_S256x128_S256x128_S256x128_S256x128_S256x128_S256x128_S2048x128_d0)
    (shapeCast S2048x128 hm shapeCasts_S2048x128_S2048x128)

/-- The attention of a face. -/
abbrev attention (e : FVec F S256x2048 .bf16) (vb : FVec F S2048x128 .bf16) : FVec F S256x128 .f32 :=
  mulf (matmul dot_S256x2048_S2048x128_S256x128_1_0_0_1_n_n none e vb (constant S256x128 .f32 0x00000000#32)) (recips e)

/-- The row a face leaves of its attention: the sum over its points, each times its mask. -/
def faceRow (hm : FVec F S2048x128 .bf16) (q v : FVec F S256x128 .bf16) (kt : FVec F S128x256 .bf16) (m : FVec F S1x256 .f32) :
    FVec F S1x128 .f32 :=
  shapeCast S1x128 (matmul dot_S1x256_S256x128_S1x128_1_0_0_1_n_n none (shapeCast S1x256 m shapeCasts_S1x256_S1x256)
    (attention (expAll q kt m) (valueBlocks v hm)) (constant S1x128 .f32 0x00000000#32)) shapeCasts_S1x128_S1x128

/-- The sum of a face's mask. -/
def maskSum (m : FVec F S1x256 .f32) : FVec F S1x1 .f32 :=
  shapeCast S1x1 (shapeCast S1x1 (multiReduction .add [1] S1 (shapeCast S1x256 m shapeCasts_S1x256_S1x256) 0x00000000#32 reduces_S1x256_S1
    (.inl rfl) rfl) shapeCasts_S1_S1x1) shapeCasts_S1x1_S1x1

end Ops

/-! ## The operations at an index -/

theorem rowHead_at (r : Fin 128) : rowHead (ix2 r 0) = BitVec.ofNat 32 (r.val / 16) := by
  pointwise
  revert r
  decide +kernel

theorem headRows_at (h : Fin 8) (r : Fin 128) :
    headRows (BitVec.ofNat 32 h.val) (ix2 r 0) = BitVec.ofBool (decide (r.val / 16 = h.val)) := by
  rw [headRows, shapeCast_self]
  show IntOp.cmpi .eq (rowHead (ix2 r 0)) (BitVec.ofNat 32 h.val) = _
  rw [rowHead_at]
  revert h r
  decide +kernel

theorem keyBlock_at (kt : FVec Ideal S128x256 .bf16) (h : Fin 8) (r : Fin 128) (k : Fin 256) :
    keyBlock (F := Ideal) kt (BitVec.ofNat 32 h.val) (ix2 r k) = if r.val / 16 = h.val then kt (ix2 r k) else 0 := by
  have hb : broadcastTo S128x256 (headRows (BitVec.ofNat 32 h.val)) broadcasts_S128x1_S128x256 (ix2 r k)
      = headRows (BitVec.ofNat 32 h.val) (ix2 r 0) := by
    generalize headRows (BitVec.ofNat 32 h.val) = y
    pointwise
  show Scalar.select (broadcastTo S128x256 _ _ (ix2 r k)) (kt (ix2 r k)) (Ideal.ofBits .bf16 0x0000#16) = _
  rw [hb, headRows_at, word_zero16]
  by_cases hh : r.val / 16 = h.val
  · rw [if_pos hh, decide_eq_true hh]; rfl
  · rw [if_neg hh, decide_eq_false hh]; rfl

theorem keyBlocks_at (kt : FVec Ideal S128x256 .bf16) (r : Fin 128) (x : Fin 2048) (h : Fin 8) (k : Fin 256)
    (hx : 256 * h.val + k.val = x.val) :
    keyBlocks (F := Ideal) kt (ix2 r x) = if r.val / 16 = h.val then kt (ix2 r k) else 0 :=
  (concat_cols (fun h => keyBlock (F := Ideal) kt (BitVec.ofNat 32 h.val)) _ r x h k hx).trans (keyBlock_at kt h r k)

theorem validRow_at (m : FVec Ideal S1x256 .f32) (k : Fin 256) :
    validRow (F := Ideal) m (ix2 0 k) = valid (fun k => m (ix2 0 k)) k := by
  rw [validRow, shapeCast_self]
  show ((((BitVec.setWidth 32 (BitVec.ofBool (decide (m (ix2 0 k) ≠ Ideal.ofBits .f32 0x00000000#32)))).toInt : ℤ) : ℝ) : EReal) = _
  rw [Ideal.ofBits_zero_f32]
  unfold valid
  by_cases h : m (ix2 0 k) = 0
  · rw [if_pos h, decide_eq_false (not_not.2 h)]; simp
  · rw [if_neg h, decide_eq_true h]; simp

/-- An entry of the exponentials: head `h`, query `l`, key `k`. -/
theorem expAll_at (q : FVec Ideal S256x128 .bf16) (kt : FVec Ideal S128x256 .bf16) (m : FVec Ideal S1x256 .f32)
    (z : Fin 256 → Fin 384 → EReal) (hq : ∀ l (h : Fin 8) (d : Fin 16) r, r.val = 16 * h.val + d.val → q (ix2 l r) = z l (qcol h d))
    (hk : ∀ k (h : Fin 8) (d : Fin 16) r, r.val = 16 * h.val + d.val → kt (ix2 r k) = z k (kcol h d))
    (l : Fin 256) (x : Fin 2048) (h : Fin 8) (k : Fin 256) (hx : 256 * h.val + k.val = x.val) :
    expAll (F := Ideal) q kt m (ix2 l x) = weight' z (fun k => m (ix2 0 k)) h l k := by
  have hv : broadcastTo S256x2048 (concatenate S1x2048 1 [⟨S1x256, validRow (F := Ideal) m⟩, ⟨S1x256, validRow m⟩, ⟨S1x256, validRow m⟩,
      ⟨S1x256, validRow m⟩, ⟨S1x256, validRow m⟩, ⟨S1x256, validRow m⟩, ⟨S1x256, validRow m⟩, ⟨S1x256, validRow m⟩]
      concatenates_S1x256_S1x256_S1x256_S1x256_S1x256_S1x256_S1x256_S1x256_S1x2048_d1) broadcasts_S1x2048_S256x2048 (ix2 l x)
      = valid (fun k => m (ix2 0 k)) k := by
    rw [← validRow_at]
    refine Eq.trans ?_ (concat_cols (fun _ => validRow (F := Ideal) m)
      concatenates_S1x256_S1x256_S1x256_S1x256_S1x256_S1x256_S1x256_S1x256_S1x2048_d1 0 x h k hx)
    generalize concatenate S1x2048 1 _ _ = y
    pointwise
  have hs : matmul (F := Ideal) dot_S256x128_S128x2048_S256x2048_1_0_0_1_n_n none q (keyBlocks kt) (constant S256x2048 .f32 0x00000000#32)
      (ix2 l x) = score z h l k := by
    have e : matmul (F := Ideal) dot_S256x128_S128x2048_S256x2048_1_0_0_1_n_n none q (keyBlocks kt)
        (constant S256x2048 .f32 0x00000000#32) (ix2 l x) = ∑ r : Fin 128, q (ix2 l r) * keyBlocks (F := Ideal) kt (ix2 r x) := by
      generalize keyBlocks (F := Ideal) kt = y
      pointwise
    rw [e]
    refine sum_one_group (by norm_num) _ h _ (fun r d hr => ?_) (fun r a d hr ha => ?_)
    · rw [keyBlocks_at kt r x h k hx, if_pos (by omega), hq l h d r hr, hk k h d r hr]
    · rw [keyBlocks_at kt r x h k hx, if_neg (fun hh => ha (Fin.ext (by omega))), mul_zero]
  show Ideal.exp2 (matmul (F := Ideal) _ none q (keyBlocks kt) _ (ix2 l x)) * broadcastTo S256x2048 _ _ (ix2 l x) = _
  rw [hv, hs]
  rfl

/-- A head's reciprocal denominator. -/
theorem recip_at (off : ℕ) (hs : S256x2048.Slices ![0, off] S256x256) (e : FVec Ideal S256x2048 .bf16) (l : Fin 256) (d : Fin 16)
    (w : Fin 256 → EReal) (hw : ∀ (x : Fin 2048) (k : Fin 256), off + k.val = x.val → e (ix2 l x) = w k) :
    recip (F := Ideal) off hs e (ix2 l d) = Ideal.div 1 ((∑ k, w k) + tinyAttn) := by
  have h2 : ∀ k : Fin 256, off + k.val < 2048 := fun k => by
    have := hs.2 1
    have h3 : off + 256 ≤ 2048 := this
    omega
  have e1 : ∀ k : Fin 256, extractStridedSlice S256x256 ![0, off] e hs (ix2 l k) = w k := fun k => by
    rw [← hw ⟨off + k.val, h2 k⟩ k rfl]
    refine extractStridedSlice_apply _ e hs _ _ fun a => ?_
    match a with
    | ⟨0, _⟩ => exact (Nat.zero_add _).symm
    | ⟨1, _⟩ => rfl
  unfold recip
  generalize extractStridedSlice S256x256 ![0, off] e hs = y at e1 ⊢
  pointwise
  simp only [e1, Ideal.ofBits_zero_f32, word_one]
  rfl

theorem recips_at (e : FVec Ideal S256x2048 .bf16) (l : Fin 256) (c : Fin 128)
    (w : Fin 8 → Fin 256 → EReal) (hw : ∀ (x : Fin 2048) (h : Fin 8) (k : Fin 256), 256 * h.val + k.val = x.val → e (ix2 l x) = w h k) :
    recips (F := Ideal) e (ix2 l c) = Ideal.div 1 ((∑ k, w (head c) k) + tinyAttn) := by
  have hsl : ∀ h : Fin 8, S256x2048.Slices ![0, 256 * h.val] S256x256 := by decide
  refine (concat_cols (fun h => recip (F := Ideal) (256 * h.val) (hsl h) e)
    concatenates_S256x16_S256x16_S256x16_S256x16_S256x16_S256x16_S256x16_S256x16_S256x128_d1 l c (head c) ⟨c.val % 16, by omega⟩ ?_).trans ?_
  · show 16 * (c.val / 16) + c.val % 16 = c.val
    omega
  · exact recip_at _ _ e l _ (w (head c)) fun x k hx => hw x (head c) k hx

theorem valueBlocks_at (v : FVec Ideal S256x128 .bf16) (hm : FVec Ideal S2048x128 .bf16)
    (hhm : ∀ (x : Fin 2048) (c : Fin 128) (h : Fin 8) (k : Fin 256), x.val = 256 * h.val + k.val →
      hm (ix2 x c) = if h = head c then 1 else 0)
    (x : Fin 2048) (c : Fin 128) (h : Fin 8) (k : Fin 256) (hx : x.val = 256 * h.val + k.val) :
    valueBlocks (F := Ideal) v hm (ix2 x c) = v (ix2 k c) * if h = head c then 1 else 0 := by
  rw [valueBlocks, shapeCast_self, ← hhm x c h k hx]
  exact congrArg (fun a : EReal => a * hm (ix2 x c)) (concat_rows (fun _ => v)
    concatenates_S256x128_S256x128_S256x128_S256x128_S256x128_S256x128_S256x128_S256x128_S2048x128_d0 x c h k hx.symm)

/-- A face's row at column `c`: the masked sum of the attention. -/
theorem faceRow_at (hm : FVec Ideal S2048x128 .bf16) (q v : FVec Ideal S256x128 .bf16) (kt : FVec Ideal S128x256 .bf16)
    (m : FVec Ideal S1x256 .f32) (z : Fin 256 → Fin 384 → EReal)
    (hhm : ∀ (x : Fin 2048) (c : Fin 128) (h : Fin 8) (k : Fin 256), x.val = 256 * h.val + k.val →
      hm (ix2 x c) = if h = head c then 1 else 0)
    (hq : ∀ l (h : Fin 8) (d : Fin 16) r, r.val = 16 * h.val + d.val → q (ix2 l r) = z l (qcol h d))
    (hk : ∀ k (h : Fin 8) (d : Fin 16) r, r.val = 16 * h.val + d.val → kt (ix2 r k) = z k (kcol h d))
    (hv : ∀ k c, v (ix2 k c) = z k (vcol c)) (c : Fin 128) :
    faceRow (F := Ideal) hm q v kt m (ix2 0 c) = ∑ l, m (ix2 0 l) * attend' z (fun k => m (ix2 0 k)) l c := by
  have ha : ∀ l, attention (F := Ideal) (expAll q kt m) (valueBlocks v hm) (ix2 l c) = attend' z (fun k => m (ix2 0 k)) l c := fun l => by
    have he : ∀ (x : Fin 2048) (h : Fin 8) (k : Fin 256), 256 * h.val + k.val = x.val →
        expAll (F := Ideal) q kt m (ix2 l x) = weight' z (fun k => m (ix2 0 k)) h l k := fun x h k hx => expAll_at q kt m z hq hk l x h k hx
    have e : matmul (F := Ideal) dot_S256x2048_S2048x128_S256x128_1_0_0_1_n_n none (expAll q kt m) (valueBlocks v hm)
        (constant S256x128 .f32 0x00000000#32) (ix2 l c)
        = ∑ x : Fin 2048, expAll (F := Ideal) q kt m (ix2 l x) * valueBlocks (F := Ideal) v hm (ix2 x c) := by
      generalize expAll (F := Ideal) q kt m = y1
      generalize valueBlocks (F := Ideal) v hm = y2
      pointwise
    show matmul (F := Ideal) _ none _ _ _ (ix2 l c) * recips (F := Ideal) (expAll q kt m) (ix2 l c) = _
    rw [recips_at _ l c (fun h k => weight' z (fun k => m (ix2 0 k)) h l k) he, e]
    unfold attend'
    congr 1
    refine sum_one_group (by norm_num) _ (head c) _ (fun x k hx => ?_) (fun x h k hx hh => ?_)
    · rw [he x (head c) k hx.symm, valueBlocks_at v hm hhm x c (head c) k hx, if_pos rfl, mul_one, hv]
    · rw [valueBlocks_at v hm hhm x c h k hx, if_neg hh, mul_zero, mul_zero]
  have e : faceRow (F := Ideal) hm q v kt m (ix2 0 c)
      = ∑ l : Fin 256, m (ix2 0 l) * attention (F := Ideal) (expAll q kt m) (valueBlocks v hm) (ix2 l c) := by
    unfold faceRow
    generalize attention (F := Ideal) (expAll q kt m) (valueBlocks v hm) = y
    rw [shapeCast_self, shapeCast_self]
    pointwise
  rw [e]
  exact Finset.sum_congr rfl fun l _ => by rw [ha]

theorem maskSum_at (m : FVec Ideal S1x256 .f32) : maskSum (F := Ideal) m (ix2 0 0) = ∑ k, m (ix2 0 k) := by
  unfold maskSum
  rw [shapeCast_self, shapeCast_self]
  pointwise

end Cert.KernelIdeal.Faces

end
-- ==== Proof.Block.lean ====
/- What one grid point leaves, as one function of the blocks it reads: the queries, keys and values of all its points, every face's row
   and mask sum, and the final layers. -/
module

public import proofs.«01_k».proof.Proof.FaceOp
public import Idealize.ShloMosaic.Lib.Pipeline.Value
public import Idealize.ShloMosaic.Lib.Pipeline.FrameBody

@[expose] public section

set_option maxRecDepth 16384

noncomputable section

namespace Cert.KernelIdeal.Faces

open Idealize.ShloMosaic Idealize.SL.Sem Cert.KernelIdeal Cert.KernelIdeal.Gen Cert.Face

section Ops

variable {F : FTy → Type} [FloatOps F] [Named F]

/-- The queries, keys and values of all points of a block. -/
def qkvAll (x0 : Vec F S8192x3 .f32) (x4 : Vec F S3x64 .f32) (x5 x6 x7 : Vec F S1x64 .f32) (x8 : Vec F S64x128 .f32)
    (x9 x10 x11 : Vec F S1x128 .f32) (x12 : Vec F S128x384 .f32) (x13 : Vec F S1x384 .f32) : FVec F S8192x384 .bf16 :=
  k0_pay7 (k0_pay4 x12) (k0_pay5 x13) (k0_pay6 (k0_pay2 x0 x4 x5 x6 x7 x8) x9 x10 x11)

theorem inbQ (s : Fin 32) : ∀ a, (![256 * s.val, 0] : Fin 2 → ℕ) a + S256x128.size a ≤ S8192x384.size a := by revert s; decide
theorem inbV (s : Fin 32) : ∀ a, (![256 * s.val, 256] : Fin 2 → ℕ) a + S256x128.size a ≤ S8192x384.size a := by revert s; decide
theorem inbK (s : Fin 32) : ∀ a, (![0, 256 * s.val] : Fin 2 → ℕ) a + S128x256.size a ≤ S128x8192.size a := by revert s; decide
theorem inbM (s : Fin 32) : ∀ a, (![s.val, 0] : Fin 2 → ℕ) a + S1x256.size a ≤ S32x256.size a := by revert s; decide
theorem inbP (s : Fin 32) : ∀ a, (![s.val, 0] : Fin 2 → ℕ) a + S1x128.size a ≤ S32x128.size a := by revert s; decide
theorem inbS (s : Fin 32) : ∀ a, (![s.val, 0] : Fin 2 → ℕ) a + S1x1.size a ≤ S32x1.size a := by revert s; decide

/-- Where a face's queries lie. -/
abbrev rectQ (s : Fin 32) : Rect S8192x384 := Rect.unit (s := S8192x384) ![256 * s.val, 0] S256x128.size (inbQ s)
/-- Where a face's values lie. -/
abbrev rectV (s : Fin 32) : Rect S8192x384 := Rect.unit (s := S8192x384) ![256 * s.val, 256] S256x128.size (inbV s)
/-- Where a face's transposed keys lie. -/
abbrev rectK (s : Fin 32) : Rect S128x8192 := Rect.unit (s := S128x8192) ![0, 256 * s.val] S128x256.size (inbK s)
/-- Where a face's mask lies. -/
abbrev rectM (s : Fin 32) : Rect S32x256 := Rect.unit (s := S32x256) ![s.val, 0] S1x256.size (inbM s)
/-- Where a face's row is stored. -/
abbrev rectP (s : Fin 32) : Rect S32x128 := Rect.unit (s := S32x128) ![s.val, 0] S1x128.size (inbP s)
/-- Where the sum of a face's mask is stored. -/
abbrev rectS (s : Fin 32) : Rect S32x1 := Rect.unit (s := S32x1) ![s.val, 0] S1x1.size (inbS s)

/-- The rows of the first `n` faces as stored, the last first. -/
def poolTo (f : Fin 32 → FVec F S1x128 .f32) : (n : ℕ) → n ≤ 32 → List (View.Piece (Elt F) S32x128 .f32)
  | 0, _ => []
  | n + 1, h => ⟨rectP ⟨n, h⟩, f ⟨n, h⟩⟩ :: poolTo f n (Nat.le_of_succ_le h)

/-- The mask sums of the first `n` faces as stored, the last first. -/
def sumTo (f : Fin 32 → FVec F S1x1 .f32) : (n : ℕ) → n ≤ 32 → List (View.Piece (Elt F) S32x1 .f32)
  | 0, _ => []
  | n + 1, h => ⟨rectS ⟨n, h⟩, f ⟨n, h⟩⟩ :: sumTo f n (Nat.le_of_succ_le h)

/-- Where the keys lie. -/
abbrev rectKeys : Rect S8192x384 := Rect.unit (s := S8192x384) ![0, 128] S8192x128.size (by decide)

/-- All keys, transposed. -/
def keysAll (Z : FVec F S8192x384 .bf16) : FVec F S128x8192 .bf16 :=
  k0_pay8 fun j => Z (rectKeys.toLoadRect.idx j)

/-- The row of face `s`. -/
def rowOf (Z : FVec F S8192x384 .bf16) (mk : Vec F S32x256 .f32) (hm : Vec F S2048x128 .bf16) (s : Fin 32) : FVec F S1x128 .f32 :=
  faceRow hm (fun j => Z ((rectQ s).toLoadRect.idx j)) (fun j => Z ((rectV s).toLoadRect.idx j))
    (fun j => keysAll Z ((rectK s).toLoadRect.idx j)) (fun j => mk ((rectM s).toLoadRect.idx j))

/-- The mask sum of face `s`. -/
def sumOf (mk : Vec F S32x256 .f32) (s : Fin 32) : FVec F S1x1 .f32 := maskSum fun j => mk ((rectM s).toLoadRect.idx j)

/-- All faces' rows. -/
def rowsAll (Z : FVec F S8192x384 .bf16) (mk : Vec F S32x256 .f32) (hm : Vec F S2048x128 .bf16) : Vec F S32x128 .f32 :=
  View.canon (Val := Elt F) (poolTo (rowOf Z mk hm) 32 le_rfl)

/-- All faces' mask sums. -/
def sumsAll (mk : Vec F S32x256 .f32) : Vec F S32x1 .f32 := View.canon (Val := Elt F) (sumTo (sumOf mk) 32 le_rfl)

/-- The final layers of all faces. -/
def lastAll (m : Vec F S32x1 .f32) (r : Vec F S32x128 .f32) (x14 : Vec F S128x128 .f32) (x15 : Vec F S1x128 .f32) (x16 : Vec F S128x128 .f32)
    (x17 : Vec F S1x128 .f32) (x18 : Vec F S128x32 .f32) (x19 : Vec F S1x32 .f32) : FVec F S32x32 .f32 :=
  k0_pay1 (k0_pay957 m r x14 x15 x16 x17 x18) (k0_pay958 x19)

/-- What a grid point leaves, of the blocks it reads. -/
def outBlock (x0 : Vec F S8192x3 .f32) (x1 : Vec F S32x256 .f32) (x2 : Vec F S2048x128 .bf16) (x4 : Vec F S3x64 .f32)
    (x5 x6 x7 : Vec F S1x64 .f32) (x8 : Vec F S64x128 .f32) (x9 x10 x11 : Vec F S1x128 .f32) (x12 : Vec F S128x384 .f32)
    (x13 : Vec F S1x384 .f32) (x14 : Vec F S128x128 .f32) (x15 : Vec F S1x128 .f32) (x16 : Vec F S128x128 .f32)
    (x17 : Vec F S1x128 .f32) (x18 : Vec F S128x32 .f32) (x19 : Vec F S1x32 .f32) : FVec F S32x32 .f32 :=
  lastAll (sumsAll x1) (rowsAll (qkvAll x0 x4 x5 x6 x7 x8 x9 x10 x11 x12 x13) x1 x2) x14 x15 x16 x17 x18 x19

end Ops

end Cert.KernelIdeal.Faces

end
-- ==== Proof.BlockValue.lean ====
/- What one grid point leaves, at an index: every face's result in the kernel's order of operations. -/
module

public import proofs.«01_k».proof.Proof.Block

@[expose] public section

set_option maxRecDepth 16384

noncomputable section

namespace Cert.KernelIdeal.Faces

open Idealize.ShloMosaic Cert.KernelIdeal Cert.KernelIdeal.Gen Cert.Face

/-- The weights, of the blocks a grid point reads. -/
def blockWeights (x4 : Vec Ideal S3x64 .f32) (x5 x6 x7 : Vec Ideal S1x64 .f32) (x8 : Vec Ideal S64x128 .f32)
    (x9 x10 x11 : Vec Ideal S1x128 .f32) (x12 : Vec Ideal S128x384 .f32) (x13 : Vec Ideal S1x384 .f32) (x14 : Vec Ideal S128x128 .f32)
    (x15 : Vec Ideal S1x128 .f32) (x16 : Vec Ideal S128x128 .f32) (x17 : Vec Ideal S1x128 .f32) (x18 : Vec Ideal S128x32 .f32)
    (x19 : Vec Ideal S1x32 .f32) : Weights where
  W1 i j := x4 (ix2 i j)
  b1 j := x5 (ix2 0 j)
  g1 j := x6 (ix2 0 j)
  c1 j := x7 (ix2 0 j)
  W2 i j := x8 (ix2 i j)
  b2 j := x9 (ix2 0 j)
  g2 j := x10 (ix2 0 j)
  c2 j := x11 (ix2 0 j)
  Wq i j := x12 (ix2 i j)
  bq j := x13 (ix2 0 j)
  Wo i j := x14 (ix2 i j)
  bo j := x15 (ix2 0 j)
  Wf1 i j := x16 (ix2 i j)
  bf1 j := x17 (ix2 0 j)
  Wf2 i j := x18 (ix2 i j)
  bf2 j := x19 (ix2 0 j)

/-! ## The layers at an index -/

/-- The first hidden vector of point `r`, through the second layer's weights. -/
theorem pay2_at (v0 : Vec Ideal S8192x3 .f32) (v2 : Vec Ideal S3x64 .f32) (v4 v8 v10 : Vec Ideal S1x64 .f32) (v36 : Vec Ideal S64x128 .f32)
    (r : Fin 8192) (c : Fin 128) :
    k0_pay2 (F := Ideal) v0 v2 v4 v8 v10 v36 (ix2 r c)
    = ∑ i, max (norm' 64 (dense (fun d => v0 (ix2 r d)) (fun i j => v2 (ix2 i j)) (fun j => v4 (ix2 0 j))) (fun j => v8 (ix2 0 j))
        (fun j => v10 (ix2 0 j)) i) 0 * v36 (ix2 i c) := by
  unfold k0_pay2
  pointwise
  simp only [word_64]
  rfl

/-- The second hidden vector of point `r`. -/
theorem pay6_at (v37 : FVec Ideal S8192x128 .f32) (v38 v42 v44 : Vec Ideal S1x128 .f32) (r : Fin 8192) (c : Fin 128) :
    k0_pay6 (F := Ideal) v37 v38 v42 v44 (ix2 r c)
    = max (norm' 128 (fun c => v37 (ix2 r c) + v38 (ix2 0 c)) (fun c => v42 (ix2 0 c)) (fun c => v44 (ix2 0 c)) c) 0 := by
  unfold k0_pay6
  pointwise
  simp only [word_128]
  rfl

/-- The row of factors. -/
theorem pay3_at (c : Fin 384) : k0_pay3 (F := Ideal) (ix2 0 c) = colScale c := by
  unfold k0_pay3
  pointwise
  rfl

/-- The scaled weights. -/
theorem pay4_at (v73 : Vec Ideal S128x384 .f32) (k : Fin 128) (c : Fin 384) :
    k0_pay4 (F := Ideal) v73 (ix2 k c) = v73 (ix2 k c) * colScale c := by
  rw [← pay3_at]
  unfold k0_pay4
  generalize k0_pay3 (F := Ideal) = y
  pointwise

/-- The scaled bias. -/
theorem pay5_at (v77 : Vec Ideal S1x384 .f32) (c : Fin 384) : k0_pay5 (F := Ideal) v77 (ix2 0 c) = v77 (ix2 0 c) * colScale c := by
  rw [← pay3_at]
  unfold k0_pay5
  generalize k0_pay3 (F := Ideal) = y
  rw [shapeCast_self]
  pointwise

/-- The dense layer of queries, keys and values. -/
theorem pay7_at (v76 : FVec Ideal S128x384 .bf16) (v79 : FVec Ideal S1x384 .f32) (v80 : FVec Ideal S8192x128 .bf16) (r : Fin 8192)
    (c : Fin 384) :
    k0_pay7 (F := Ideal) v76 v79 v80 (ix2 r c) = dense (fun k => v80 (ix2 r k)) (fun k c => v76 (ix2 k c)) (fun c => v79 (ix2 0 c)) c := by
  unfold k0_pay7
  rw [shapeCast_self]
  pointwise
  rfl

/-- The keys, transposed. -/
theorem pay8_at (v88 : Vec Ideal S8192x128 .bf16) (r : Fin 8192) (c : Fin 128) : k0_pay8 (F := Ideal) v88 (ix2 c r) = v88 (ix2 r c) := by
  unfold k0_pay8
  rw [shapeCast_self]
  pointwise

/-- The projection, the pooling and the final layers of face `s`. -/
theorem lastAll_at (m : Vec Ideal S32x1 .f32) (r : Vec Ideal S32x128 .f32) (x14 : Vec Ideal S128x128 .f32) (x15 : Vec Ideal S1x128 .f32)
    (x16 : Vec Ideal S128x128 .f32) (x17 : Vec Ideal S1x128 .f32) (x18 : Vec Ideal S128x32 .f32) (x19 : Vec Ideal S1x32 .f32) (s j : Fin 32) :
    lastAll (F := Ideal) m r x14 x15 x16 x17 x18 x19 (ix2 s j)
    = dense (fun j => max (dense (fun j => Ideal.div (∑ c, r (ix2 s c) * x14 (ix2 c j) + x15 (ix2 0 j) * m (ix2 s 0))
        (m (ix2 s 0) + tinyPool)) (fun a b => x16 (ix2 a b)) (fun j => x17 (ix2 0 j)) j) 0) (fun a b => x18 (ix2 a b))
        (fun j => x19 (ix2 0 j)) j := by
  unfold lastAll k0_pay1 k0_pay957 k0_pay958
  pointwise
  rfl

/-- The queries, keys and values of point `r`. -/
theorem qkvAll_at (x0 : Vec Ideal S8192x3 .f32) (x4 : Vec Ideal S3x64 .f32) (x5 x6 x7 : Vec Ideal S1x64 .f32) (x8 : Vec Ideal S64x128 .f32)
    (x9 x10 x11 : Vec Ideal S1x128 .f32) (x12 : Vec Ideal S128x384 .f32) (x13 : Vec Ideal S1x384 .f32) (x14 : Vec Ideal S128x128 .f32)
    (x15 : Vec Ideal S1x128 .f32) (x16 : Vec Ideal S128x128 .f32) (x17 : Vec Ideal S1x128 .f32) (x18 : Vec Ideal S128x32 .f32)
    (x19 : Vec Ideal S1x32 .f32) (r : Fin 8192) (c : Fin 384) :
    qkvAll (F := Ideal) x0 x4 x5 x6 x7 x8 x9 x10 x11 x12 x13 (ix2 r c)
    = qkv' (blockWeights x4 x5 x6 x7 x8 x9 x10 x11 x12 x13 x14 x15 x16 x17 x18 x19) (fun d => x0 (ix2 r d)) c := by
  unfold qkvAll
  rw [pay7_at]
  simp only [pay4_at, pay5_at, pay6_at, pay2_at]
  rfl

/-! ## What the stores leave -/

/-- The rows of the first `n` faces leave face `s`'s row at row `s`. -/
theorem canon_poolTo (f : Fin 32 → FVec Ideal S1x128 .f32) (s : Fin 32) (c : Fin 128) : ∀ (n : ℕ) (h : n ≤ 32), s.val < n →
    View.canon (Val := Elt Ideal) (poolTo f n h) (ix2 s c) = f s (ix2 0 c)
  | 0, _, hs => absurd hs (Nat.not_lt_zero _)
  | n + 1, h, hs => by
    by_cases e : s.val = n
    · have he : ix2 s c = (rectP ⟨n, h⟩).emb (ix2 0 c) := by
        funext a
        apply Fin.ext
        fin_cases a
        · show s.val = n + 1 * 0
          omega
        · show c.val = 0 + 1 * c.val
          omega
      have hs' : (⟨n, h⟩ : Fin 32) = s := Fin.ext e.symm
      rw [he]
      refine (View.canon_cons_emb (Val := Elt Ideal) (rectP ⟨n, h⟩) _ _ (ix2 0 c)).trans ?_
      rw [hs']
    · refine (View.canon_cons_of_not_mem (Val := Elt Ideal) ⟨rectP ⟨n, h⟩, f ⟨n, h⟩⟩ _ fun hm => ?_).trans
        (canon_poolTo f s c n (Nat.le_of_succ_le h) (by omega))
      obtain ⟨x, hx⟩ := (rectP ⟨n, h⟩).exists_idx_of_mem hm
      have h0 : n + 1 * (x 0).val = s.val := congrArg Fin.val (congrFun hx 0)
      have h1 : (x 0).val < 1 := (x 0).isLt
      omega

/-- The mask sums of the first `n` faces leave face `s`'s sum at row `s`. -/
theorem canon_sumTo (f : Fin 32 → FVec Ideal S1x1 .f32) (s : Fin 32) : ∀ (n : ℕ) (h : n ≤ 32), s.val < n →
    View.canon (Val := Elt Ideal) (sumTo f n h) (ix2 s 0) = f s (ix2 0 0)
  | 0, _, hs => absurd hs (Nat.not_lt_zero _)
  | n + 1, h, hs => by
    by_cases e : s.val = n
    · have he : ix2 s (0 : Fin 1) = (rectS ⟨n, h⟩).emb (ix2 0 0) := by
        funext a
        apply Fin.ext
        fin_cases a
        · show s.val = n + 1 * 0
          omega
        · rfl
      have hs' : (⟨n, h⟩ : Fin 32) = s := Fin.ext e.symm
      rw [he]
      refine (View.canon_cons_emb (Val := Elt Ideal) (rectS ⟨n, h⟩) _ _ (ix2 0 0)).trans ?_
      rw [hs']
    · refine (View.canon_cons_of_not_mem (Val := Elt Ideal) ⟨rectS ⟨n, h⟩, f ⟨n, h⟩⟩ _ fun hm => ?_).trans
        (canon_sumTo f s n (Nat.le_of_succ_le h) (by omega))
      obtain ⟨x, hx⟩ := (rectS ⟨n, h⟩).exists_idx_of_mem hm
      have h0 : n + 1 * (x 0).val = s.val := congrArg Fin.val (congrFun hx 0)
      have h1 : (x 0).val < 1 := (x 0).isLt
      omega

/-- Point `l` of face `s` among a block's points. -/
def pointNo (s : Fin 32) (l : Fin 256) : Fin 8192 := ⟨256 * s.val + l.val, by omega⟩

/-- A read through a rectangle of a rank-two array whose sides begin at `a` and `b`. -/
theorem idx_at {m n m' n' : ℕ} (a b : ℕ) (h : ∀ x, (![a, b] : Fin 2 → ℕ) x + (![m', n'] : Fin 2 → ℕ) x ≤ (![m, n] : Fin 2 → ℕ) x)
    (i : Fin m') (j : Fin n') (i' : Fin m) (j' : Fin n) (hi : i'.val = a + i.val) (hj : j'.val = b + j.val) :
    (Rect.unit (s := ⟨2, ![m, n]⟩) ![a, b] ![m', n'] h).toLoadRect.idx (ix2 i j) = ix2 i' j' := by
  funext x
  apply Fin.ext
  fin_cases x
  · show a + 1 * i.val = i'.val
    omega
  · show b + 1 * j.val = j'.val
    omega

/-- Row `r` of the transposed keys. -/
theorem keysAll_at (Z : FVec Ideal S8192x384 .bf16) (r : Fin 128) (l : Fin 8192) (c : Fin 384) (hc : c.val = 128 + r.val) :
    keysAll (F := Ideal) Z (ix2 r l) = Z (ix2 l c) :=
  (pay8_at _ l r).trans (congrArg Z (idx_at 0 128 _ l r l c (Nat.zero_add _).symm hc))

/-- The mask row of face `s`. -/
theorem maskRow_at (mk : Vec Ideal S32x256 .f32) (s : Fin 32) (l : Fin 256) : mk ((rectM s).toLoadRect.idx (ix2 0 l)) = mk (ix2 s l) :=
  congrArg mk (idx_at s.val 0 _ 0 l s l rfl (Nat.zero_add _).symm)

/-- The row of face `s` is the masked sum of the attention of its points. -/
theorem rowOf_at (Z : FVec Ideal S8192x384 .bf16) (mk : Vec Ideal S32x256 .f32) (hm : Vec Ideal S2048x128 .bf16)
    (hhm : ∀ (x : Fin 2048) (c : Fin 128) (h : Fin 8) (k : Fin 256), x.val = 256 * h.val + k.val →
      hm (ix2 x c) = if h = head c then (1 : EReal) else 0) (s : Fin 32) (c : Fin 128) :
    rowOf (F := Ideal) Z mk hm s (ix2 0 c)
    = ∑ l, mk (ix2 s l) * attend' (fun l j => Z (ix2 (pointNo s l) j)) (fun k => mk (ix2 s k)) l c := by
  unfold rowOf
  refine (faceRow_at hm _ _ _ _ (fun l j => Z (ix2 (pointNo s l) j)) hhm ?_ ?_ ?_ c).trans ?_
  · intro l h d r hr
    exact congrArg Z (idx_at (256 * s.val) 0 _ l r (pointNo s l) (qcol h d) rfl (by show 16 * h.val + d.val = 0 + r.val; omega))
  · intro k h d r hr
    exact (congrArg (keysAll Z) (idx_at 0 (256 * s.val) _ r k r (pointNo s k) (Nat.zero_add _).symm rfl)).trans
      (keysAll_at Z r (pointNo s k) (kcol h d) (by show 128 + (16 * h.val + d.val) = 128 + r.val; omega))
  · intro k c
    exact congrArg Z (idx_at (256 * s.val) 256 _ k c (pointNo s k) (vcol c) rfl rfl)
  · simp only [maskRow_at]

/-- The mask sum of face `s`. -/
theorem sumOf_at (mk : Vec Ideal S32x256 .f32) (s : Fin 32) : sumOf (F := Ideal) mk s (ix2 0 0) = ∑ l, mk (ix2 s l) := by
  unfold sumOf
  rw [maskSum_at]
  simp only [maskRow_at]

/-- What a grid point leaves at row `s`, column `j`: face `s`'s result. -/
theorem outBlock_at (x0 : Vec Ideal S8192x3 .f32) (x1 : Vec Ideal S32x256 .f32) (x2 : Vec Ideal S2048x128 .bf16) (x4 : Vec Ideal S3x64 .f32)
    (x5 x6 x7 : Vec Ideal S1x64 .f32) (x8 : Vec Ideal S64x128 .f32) (x9 x10 x11 : Vec Ideal S1x128 .f32) (x12 : Vec Ideal S128x384 .f32)
    (x13 : Vec Ideal S1x384 .f32) (x14 : Vec Ideal S128x128 .f32) (x15 : Vec Ideal S1x128 .f32) (x16 : Vec Ideal S128x128 .f32)
    (x17 : Vec Ideal S1x128 .f32) (x18 : Vec Ideal S128x32 .f32) (x19 : Vec Ideal S1x32 .f32)
    (hhm : ∀ (x : Fin 2048) (c : Fin 128) (h : Fin 8) (k : Fin 256), x.val = 256 * h.val + k.val →
      x2 (ix2 x c) = if h = head c then (1 : EReal) else 0) (s j : Fin 32) :
    outBlock (F := Ideal) x0 x1 x2 x4 x5 x6 x7 x8 x9 x10 x11 x12 x13 x14 x15 x16 x17 x18 x19 (ix2 s j)
    = face' (blockWeights x4 x5 x6 x7 x8 x9 x10 x11 x12 x13 x14 x15 x16 x17 x18 x19) (fun l d => x0 (ix2 (pointNo s l) d))
        (fun l => x1 (ix2 s l)) j := by
  have hs : sumsAll (F := Ideal) x1 (ix2 s 0) = ∑ l, x1 (ix2 s l) := (canon_sumTo _ s 32 le_rfl s.isLt).trans (sumOf_at x1 s)
  have hr : ∀ c, rowsAll (F := Ideal) (qkvAll x0 x4 x5 x6 x7 x8 x9 x10 x11 x12 x13) x1 x2 (ix2 s c)
      = ∑ l, x1 (ix2 s l) * attend' (fun l => qkv' (blockWeights x4 x5 x6 x7 x8 x9 x10 x11 x12 x13 x14 x15 x16 x17 x18 x19)
          (fun d => x0 (ix2 (pointNo s l) d))) (fun k => x1 (ix2 s k)) l c := fun c => by
    refine (canon_poolTo _ s c 32 le_rfl s.isLt).trans ((rowOf_at _ x1 x2 hhm s c).trans ?_)
    simp only [qkvAll_at x0 x4 x5 x6 x7 x8 x9 x10 x11 x12 x13 x14 x15 x16 x17 x18 x19]
  unfold outBlock
  rw [lastAll_at]
  simp only [hs, hr]
  rfl

end Cert.KernelIdeal.Faces

end
-- ==== Proof.Args.lean ====
/- The arguments' arrays as the weights, and as every face's features and mask. -/
module

public import proofs.«01_k».proof.Proof.Spec
public import Idealize.ShloMosaic.Lib.ValueIdx

@[expose] public section

noncomputable section

namespace Cert.Face

open Idealize.ShloMosaic Idealize.ShloMosaic.ValueIdx

/-- An array of extended reals with one axis. -/
abbrev Arr1 (n : ℕ) := (⟨1, ![n]⟩ : Shape).Idx → EReal
/-- An array of extended reals with two axes. -/
abbrev Arr2 (n k : ℕ) := (⟨2, ![n, k]⟩ : Shape).Idx → EReal
/-- The points of every face, on a grid of sixteen by sixteen. -/
abbrev Points := (⟨4, ![512, 16, 16, 4]⟩ : Shape).Idx → EReal

/-- Entry `c` of point `l` of face `n`. -/
def point (x : Points) (n : Fin 512) (l : Fin 256) (c : Fin 4) : EReal :=
  x (ix4 n ⟨l.val / 16, by omega⟩ ⟨l.val % 16, by omega⟩ c)

/-- Feature `c` of point `l` of face `n`. -/
def featOf (x : Points) (n : Fin 512) (l : Fin 256) (c : Fin 3) : EReal := point x n l ⟨c.val, by omega⟩

/-- The mask of point `l` of face `n`. -/
def maskOf (x : Points) (n : Fin 512) (l : Fin 256) : EReal := point x n l 3

/-- The weights of sixteen arrays. -/
def weightsOf (x1 : Arr2 3 64) (x2 x3 x4 : Arr1 64) (x5 : Arr2 64 128) (x6 x7 x8 : Arr1 128) (x9 : Arr2 128 384) (x10 : Arr1 384)
    (x11 : Arr2 128 128) (x12 : Arr1 128) (x13 : Arr2 128 128) (x14 : Arr1 128) (x15 : Arr2 128 32) (x16 : Arr1 32) : Weights where
  W1 i j := x1 (ix2 i j)
  b1 j := x2 (ix1 j)
  g1 j := x3 (ix1 j)
  c1 j := x4 (ix1 j)
  W2 i j := x5 (ix2 i j)
  b2 j := x6 (ix1 j)
  g2 j := x7 (ix1 j)
  c2 j := x8 (ix1 j)
  Wq i j := x9 (ix2 i j)
  bq j := x10 (ix1 j)
  Wo i j := x11 (ix2 i j)
  bo j := x12 (ix1 j)
  Wf1 i j := x13 (ix2 i j)
  bf1 j := x14 (ix1 j)
  Wf2 i j := x15 (ix2 i j)
  bf2 j := x16 (ix1 j)

end Cert.Face

end
-- ==== Proof.Entry.lean ====
/- The blocks a grid point reads, at an index, by the program's arguments. -/
module

public import proofs.«01_k».proof.Proof.BlockValue
public import proofs.«01_k».proof.Proof.Args
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

namespace Cert.KernelIdeal.Faces

open Idealize.ShloMosaic Idealize.ShloMosaic.TcCoe Idealize.SL.Sem Cert.KernelIdeal Cert.KernelIdeal.Gen Cert.Face

/-! ## The head mask -/

/-- A word's quotient by another, rounded down, as the host computes it. -/
abbrev floorDiv (x y : BitVec 32) : BitVec 32 :=
  Scalar.select (IntOp.andi
      (IntOp.cmpi .ne (if x = 0 then (0 : BitVec 32) else if x.msb = true then -1 else 1)
        (if y = 0 then (0 : BitVec 32) else if y.msb = true then -1 else 1))
      (IntOp.cmpi .ne (IntOp.remsi .host x y) 0#32))
    (IntOp.subi (IntOp.divsi .host x y) 1#32) (IntOp.divsi .host x y)

theorem floorDiv_256 (r : Fin 2048) : floorDiv (BitVec.ofNat 32 r.val) 256#32 = BitVec.ofNat 32 (r.val / 256) := by
  revert r
  decide +kernel

theorem floorDiv_16 (r : Fin 128) : floorDiv (BitVec.ofNat 32 r.val) 16#32 = BitVec.ofNat 32 (r.val / 16) := by
  revert r
  decide +kernel

/-- Two heads' words are the same where the heads are. -/
theorem heads_eq (a b : Fin 8) :
    IntOp.cmpi .eq (BitVec.ofNat 32 a.val) (BitVec.ofNat 32 b.val) = BitVec.ofBool (decide (a = b)) := by
  revert a b
  decide +kernel

/-- The word of a truth value, as a real. -/
theorem uitofp_bool (p : Prop) [Decidable p] :
    FloatOps.uitofp (F := Ideal) .bf16 (BitVec.ofBool (decide p)) = if p then (1 : EReal) else 0 := by
  show (((BitVec.ofBool (decide p)).toNat : ℝ) : EReal) = _
  by_cases h : p
  · rw [if_pos h, decide_eq_true h]; simp
  · rw [if_neg h, decide_eq_false h]; simp

/-! ## What the host leaves for the launch -/

variable (m : (ℓ : Loc nD τ sig) → Buf (Elt Ideal) ℓ) (c : Dev nD)

/-- The program's argument, on device `c`. -/
abbrev arg (b : Ref sig .tc) : Buf (Elt Ideal) ((c : Thread nD τ).loc b) := m ((c : Thread nD τ).loc b)

/-- The features, all faces' points one below the other. -/
theorem V_feat (r : Fin 131072) (d : Fin 3) (n : Fin 512) (l : Fin 256) (h : r.val = 256 * n.val + l.val) :
    (V m c main_v2 : S131072x3.Idx → EReal) (ix2 r d) = featOf (arg m c main_arg0) n l d := by
  unfold V
  after_reads_at
  unfold featOf point
  refine congrArg (m (c, Proc.tc.devRef main_arg0)) (funext fun a => Fin.ext ?_)
  fin_cases a
  · show r.val / 256 = n.val
    omega
  · show r.val % 256 / 16 = l.val / 16
    omega
  · show r.val % 256 % 16 = l.val % 16
    omega
  · rfl

/-- The mask. -/
theorem V_mask (n : Fin 512) (l : Fin 256) : (V m c main_v4 : S512x256.Idx → EReal) (ix2 n l) = maskOf (arg m c main_arg0) n l := by
  unfold V
  after_reads_at
  unfold maskOf point
  refine congrArg (m (c, Proc.tc.devRef main_arg0)) (funext fun a => Fin.ext ?_)
  fin_cases a <;> rfl

/-- The head mask. -/
theorem V_hmask (x : Fin 2048) (k : Fin 128) (h : Fin 8) (l : Fin 256) (hx : x.val = 256 * h.val + l.val) :
    (V m c main_v14 : S2048x128.Idx → EReal) (ix2 x k) = if h = head k then (1 : EReal) else 0 := by
  unfold V
  after_reads_at
  show FloatOps.uitofp (F := Ideal) .bf16 (IntOp.cmpi .eq (floorDiv (BitVec.ofNat 32 x.val) 256#32) (floorDiv (BitVec.ofNat 32 k.val) 16#32)) = _
  rw [floorDiv_256, floorDiv_16, show x.val / 256 = h.val by omega]
  exact (congrArg _ (heads_eq h (head k))).trans (uitofp_bool _)

/-! ## The blocks -/

/-- Where every window's block lies. -/
theorem idx : ∀ t : Fin grid0.N, win0_0.index t = ![t.val, 0] ∧ win0_1.index t = ![t.val, 0] ∧ win0_2.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![t.val, 0] := by
  decide +kernel

/-- Face `s` of grid point `t` among all faces. -/
def faceNo (t : Fin cfg0.N) (s : Fin 32) : Fin 512 := ⟨32 * t.val + s.val, by have h : t.val < 16 := t.isLt; omega⟩

/-- A block of features. -/
theorem blk_feat (t : Fin cfg0.N) (s : Fin 32) (l : Fin 256) (d : Fin 3) :
    (iblk m c 0 t : S8192x3.Idx → EReal) (ix2 (pointNo s l) d) = featOf (arg m c main_arg0) (faceNo t s) l d := by
  have h : t.val < 16 := t.isLt
  refine Eq.trans ?_ (V_feat m c ⟨8192 * t.val + (256 * s.val + l.val), by omega⟩ d (faceNo t s) l
    (by show 8192 * t.val + (256 * s.val + l.val) = 256 * (32 * t.val + s.val) + l.val; omega))
  blk_ext [iblk, idx t, pointNo]

/-- A block of the mask. -/
theorem blk_mask (t : Fin cfg0.N) (s : Fin 32) (l : Fin 256) :
    (iblk m c 1 t : S32x256.Idx → EReal) (ix2 s l) = maskOf (arg m c main_arg0) (faceNo t s) l := by
  refine Eq.trans ?_ (V_mask m c (faceNo t s) l)
  blk_ext [iblk, idx t, faceNo]

/-- The block of the head mask. -/
theorem blk_hmask (t : Fin cfg0.N) (x : Fin 2048) (k : Fin 128) (h : Fin 8) (l : Fin 256) (hx : x.val = 256 * h.val + l.val) :
    (iblk m c 2 t : S2048x128.Idx → EReal) (ix2 x k) = if h = head k then (1 : EReal) else 0 := by
  refine Eq.trans ?_ (V_hmask m c x k h l hx)
  blk_ext [iblk, idx t]

end Cert.KernelIdeal.Faces

end
-- ==== Proof.EntryWeights.lean ====
/- The weights that a grid point reads are the program's. -/
module

public import proofs.«01_k».proof.Proof.Entry
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

namespace Cert.KernelIdeal.Faces

open Idealize.ShloMosaic Idealize.ShloMosaic.TcCoe Idealize.SL.Sem Cert.KernelIdeal Cert.KernelIdeal.Gen Cert.Face

variable (m : (ℓ : Loc nD τ sig) → Buf (Elt Ideal) ℓ) (c : Dev nD)

set_option maxHeartbeats 4000000 in
/-- The weights that a grid point reads are those that the host leaves. -/
theorem blk_weights_host (t : Fin cfg0.N) :
    blockWeights (iblk m c 4 t) (iblk m c 5 t) (iblk m c 6 t) (iblk m c 7 t) (iblk m c 8 t) (iblk m c 9 t) (iblk m c 10 t)
      (iblk m c 11 t) (iblk m c 12 t) (iblk m c 13 t) (iblk m c 14 t) (iblk m c 15 t) (iblk m c 16 t) (iblk m c 17 t)
      (iblk m c 18 t) (iblk m c 19 t)
    = blockWeights (V m c main_arg1) (V m c main_v24) (V m c main_v25) (V m c main_v26) (V m c main_arg5) (V m c main_v27) (V m c main_v28)
      (V m c main_v29) (V m c main_arg9) (V m c main_v30) (V m c main_arg11) (V m c main_v31) (V m c main_arg13) (V m c main_v32)
      (V m c main_arg15) (V m c main_v33) := by
  have h := idx t
  apply Weights.ext
  case W1 | W2 | Wq | Wo | Wf1 | Wf2 =>
    funext i j
    dsimp only [blockWeights]
    blk_ext [iblk, h]
  all_goals
    funext j
    dsimp only [blockWeights]
    blk_ext [iblk, h]

set_option maxHeartbeats 4000000 in
/-- The weights that the host leaves are the program's. -/
theorem host_weights :
    blockWeights (V m c main_arg1) (V m c main_v24) (V m c main_v25) (V m c main_v26) (V m c main_arg5) (V m c main_v27) (V m c main_v28)
      (V m c main_v29) (V m c main_arg9) (V m c main_v30) (V m c main_arg11) (V m c main_v31) (V m c main_arg13) (V m c main_v32)
      (V m c main_arg15) (V m c main_v33)
    = weightsOf (arg m c main_arg1) (arg m c main_arg2) (arg m c main_arg3) (arg m c main_arg4) (arg m c main_arg5) (arg m c main_arg6)
      (arg m c main_arg7) (arg m c main_arg8) (arg m c main_arg9) (arg m c main_arg10) (arg m c main_arg11) (arg m c main_arg12)
      (arg m c main_arg13) (arg m c main_arg14) (arg m c main_arg15) (arg m c main_arg16) := by
  rw [V_main_arg1, V_main_arg5, V_main_arg9, V_main_arg11, V_main_arg13, V_main_arg15]
  apply Weights.ext
  case W1 | W2 | Wq | Wo | Wf1 | Wf2 => rfl
  all_goals
    funext j
    dsimp only [blockWeights, weightsOf]
    unfold V
    after_reads_at
    rfl

end Cert.KernelIdeal.Faces

end
-- ==== Proof.Body.lean ====
/- The run of the kernel's body at one grid point leaves `outBlock` of the blocks the point reads. -/
module

public import proofs.«01_k».proof.Proof.Block
public import proofs.«01_k».proof.Proof.Gen.KernelIdeal.Value

@[expose] public section

set_option maxRecDepth 16384

noncomputable section

namespace Cert.KernelIdeal.Faces

open Idealize.ShloMosaic Idealize.SL.Sem Cert.KernelIdeal Cert.KernelIdeal.Gen Cert.Face

section Run

variable {F : FTy → Type} [FloatOps F] [Named F]

theorem inb2 (m n : ℕ) (a : Fin 2) : (![0, 0] : Fin 2 → ℕ) a + (![m, n] : Fin 2 → ℕ) a ≤ (![m, n] : Fin 2 → ℕ) a := by
  fin_cases a <;> exact (Nat.zero_add _).le

/-- The whole array's rectangle leaves every index as it is. -/
theorem idx_full {m n : ℕ} (j : (⟨2, ![m, n]⟩ : Shape).Idx) :
    (Rect.unit (s := ⟨2, ![m, n]⟩) ![0, 0] ![m, n] (inb2 m n)).toLoadRect.idx j = j := by
  funext a
  apply Fin.ext
  fin_cases a <;> exact (Nat.zero_add _).trans (Nat.one_mul _)

/-- A load of a whole array whose contents are `x`. -/
def all2 {m n : ℕ} {e : EltTy} (M : Memref sig .tc .vmem ⟨2, ![m, n]⟩ e) (h : M.IsWhole) (x : (⟨2, ![m, n]⟩ : Shape).Idx → Elt F e) :
    (⟨2, ![m, n]⟩ : Shape).Idx → Elt F e :=
  M.view.readAt (Elt F) (Rect.unit (s := ⟨2, ![m, n]⟩) ![0, 0] ![m, n] (inb2 m n)).toLoadRect (h.unread x)

/-- It reads `x`. -/
theorem all2_eq {m n : ℕ} {e : EltTy} (M : Memref sig .tc .vmem ⟨2, ![m, n]⟩ e) (h : M.IsWhole)
    (x : (⟨2, ![m, n]⟩ : Shape).Idx → Elt F e) : all2 M h x = x := by
  funext j
  exact (congrFun (h.read_unread x) _).trans (congrArg x (idx_full j))

/-- A store of a whole array. -/
abbrev whole2 {m n : ℕ} {e : EltTy} (x : (⟨2, ![m, n]⟩ : Shape).Idx → Elt F e) : List (View.Piece (Elt F) ⟨2, ![m, n]⟩ e) :=
  [⟨Rect.unit (s := ⟨2, ![m, n]⟩) ![0, 0] ![m, n] (inb2 m n), x⟩]

/-- It leaves that array. -/
theorem canon_whole2 {m n : ℕ} {e : EltTy} (x : (⟨2, ![m, n]⟩ : Shape).Idx → Elt F e) : View.canon (whole2 x) = x :=
  View.canon_cons_unit_zero (by funext a; fin_cases a <;> rfl) _ x []

/-- The load of a whole array from the stores `L`. -/
abbrev back2 {m n : ℕ} {e : EltTy} (v : View sig .tc .vmem ⟨2, ![m, n]⟩ e) (L : List (View.Piece (Elt F) ⟨2, ![m, n]⟩ e)) :
    (⟨2, ![m, n]⟩ : Shape).Idx → Elt F e :=
  v.readCov L (Rect.unit (s := ⟨2, ![m, n]⟩) ![0, 0] ![m, n] (inb2 m n)).toLoadRect

/-- It reads what the stores leave. -/
theorem back2_eq {m n : ℕ} {e : EltTy} (v : View sig .tc .vmem ⟨2, ![m, n]⟩ e) (L : List (View.Piece (Elt F) ⟨2, ![m, n]⟩ e)) :
    back2 v L = View.canon L := by
  refine (View.readCov_eq_canon' v L _).trans ?_
  funext j
  exact congrArg (View.canon L) (idx_full j)

/-- What the body leaves, by its loads and stores. -/
theorem out_loads (c : Dev nD) (i : grid0.Coords)
    (arg1 : Memref sig .tc .vmem S8192x3 .f32) (harg1 : arg1.IsWhole) (arg2 : Memref sig .tc .vmem S32x256 .f32) (harg2 : arg2.IsWhole)
    (arg3 : Memref sig .tc .vmem S2048x128 .bf16) (harg3 : arg3.IsWhole) (arg4 : Memref sig .tc .vmem S8x128 .f32)
    (harg4 : arg4.IsWhole) (arg5 : Memref sig .tc .vmem S3x64 .f32) (harg5 : arg5.IsWhole) (arg6 : Memref sig .tc .vmem S1x64 .f32)
    (harg6 : arg6.IsWhole) (arg7 : Memref sig .tc .vmem S1x64 .f32) (harg7 : arg7.IsWhole) (arg8 : Memref sig .tc .vmem S1x64 .f32)
    (harg8 : arg8.IsWhole) (arg9 : Memref sig .tc .vmem S64x128 .f32) (harg9 : arg9.IsWhole) (arg10 : Memref sig .tc .vmem S1x128 .f32)
    (harg10 : arg10.IsWhole) (arg11 : Memref sig .tc .vmem S1x128 .f32) (harg11 : arg11.IsWhole)
    (arg12 : Memref sig .tc .vmem S1x128 .f32) (harg12 : arg12.IsWhole) (arg13 : Memref sig .tc .vmem S128x384 .f32)
    (harg13 : arg13.IsWhole) (arg14 : Memref sig .tc .vmem S1x384 .f32) (harg14 : arg14.IsWhole)
    (arg15 : Memref sig .tc .vmem S128x128 .f32) (harg15 : arg15.IsWhole) (arg16 : Memref sig .tc .vmem S1x128 .f32)
    (harg16 : arg16.IsWhole) (arg17 : Memref sig .tc .vmem S128x128 .f32) (harg17 : arg17.IsWhole)
    (arg18 : Memref sig .tc .vmem S1x128 .f32) (harg18 : arg18.IsWhole) (arg19 : Memref sig .tc .vmem S128x32 .f32)
    (harg19 : arg19.IsWhole) (arg20 : Memref sig .tc .vmem S1x32 .f32) (harg20 : arg20.IsWhole)
    (arg21 : Memref sig .tc .vmem S32x32 .f32) (harg21 : arg21.IsWhole) (arg22 : Memref sig .tc .vmem S8192x384 .bf16)
    (harg22 : arg22.IsWhole) (arg23 : Memref sig .tc .vmem S128x8192 .bf16) (harg23 : arg23.IsWhole)
    (arg24 : Memref sig .tc .vmem S32x128 .f32) (harg24 : arg24.IsWhole) (arg25 : Memref sig .tc .vmem S32x1 .f32)
    (harg25 : arg25.IsWhole)
    (x0 : Vec F S8192x3 .f32) (x1 : Vec F S32x256 .f32) (x2 : Vec F S2048x128 .bf16) (x3 : Vec F S8x128 .f32) (x4 : Vec F S3x64 .f32)
    (x5 : Vec F S1x64 .f32) (x6 : Vec F S1x64 .f32) (x7 : Vec F S1x64 .f32) (x8 : Vec F S64x128 .f32) (x9 : Vec F S1x128 .f32)
    (x10 : Vec F S1x128 .f32) (x11 : Vec F S1x128 .f32) (x12 : Vec F S128x384 .f32) (x13 : Vec F S1x384 .f32)
    (x14 : Vec F S128x128 .f32) (x15 : Vec F S1x128 .f32) (x16 : Vec F S128x128 .f32) (x17 : Vec F S1x128 .f32)
    (x18 : Vec F S128x32 .f32) (x19 : Vec F S1x32 .f32) :
    out0_A_20 c i
      arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 x0 x1 x2 x3 x4 x5 x6 x7 x8 x9 x10 x11 x12 x13 x14 x15 x16 x17 x18 x19
    = VO0_20.read (Elt F) (VO0_20.writes (Elt F) VO0_20.junk (whole2 (lastAll
        (back2 arg25.view (sumTo (fun s => maskSum (arg2.view.readAt (Elt F) (rectM s).toLoadRect (harg2.unread x1))) 32 le_rfl))
        (back2 arg24.view (poolTo (fun s => faceRow (all2 arg3 harg3 x2)
          (arg22.view.readCov (whole2 (qkvAll (all2 arg1 harg1 x0)
            (all2 arg5 harg5 x4) (all2 arg6 harg6 x5) (all2 arg7 harg7 x6) (all2 arg8 harg8 x7) (all2 arg9 harg9 x8)
            (all2 arg10 harg10 x9) (all2 arg11 harg11 x10) (all2 arg12 harg12 x11) (all2 arg13 harg13 x12) (all2 arg14 harg14 x13))) (rectQ s).toLoadRect)
          (arg22.view.readCov (whole2 (qkvAll (all2 arg1 harg1 x0)
            (all2 arg5 harg5 x4) (all2 arg6 harg6 x5) (all2 arg7 harg7 x6) (all2 arg8 harg8 x7) (all2 arg9 harg9 x8)
            (all2 arg10 harg10 x9) (all2 arg11 harg11 x10) (all2 arg12 harg12 x11) (all2 arg13 harg13 x12) (all2 arg14 harg14 x13))) (rectV s).toLoadRect)
          (arg23.view.readCov (whole2 (k0_pay8 (arg22.view.readCov (whole2 (qkvAll (all2 arg1 harg1 x0)
            (all2 arg5 harg5 x4) (all2 arg6 harg6 x5) (all2 arg7 harg7 x6) (all2 arg8 harg8 x7) (all2 arg9 harg9 x8)
            (all2 arg10 harg10 x9) (all2 arg11 harg11 x10) (all2 arg12 harg12 x11) (all2 arg13 harg13 x12) (all2 arg14 harg14 x13))) rectKeys.toLoadRect))) (rectK s).toLoadRect)
          (arg2.view.readAt (Elt F) (rectM s).toLoadRect (harg2.unread x1))) 32 le_rfl))
        (all2 arg15 harg15 x14) (all2 arg16 harg16 x15) (all2 arg17 harg17 x16) (all2 arg18 harg18 x17) (all2 arg19 harg19 x18)
        (all2 arg20 harg20 x19)))) := by
  sl_kernel_rfl

/-- What the body leaves is `outBlock` of the blocks it reads. -/
theorem out_eq (c : Dev nD) (i : grid0.Coords)
    (arg1 : Memref sig .tc .vmem S8192x3 .f32) (harg1 : arg1.IsWhole) (arg2 : Memref sig .tc .vmem S32x256 .f32) (harg2 : arg2.IsWhole)
    (arg3 : Memref sig .tc .vmem S2048x128 .bf16) (harg3 : arg3.IsWhole) (arg4 : Memref sig .tc .vmem S8x128 .f32)
    (harg4 : arg4.IsWhole) (arg5 : Memref sig .tc .vmem S3x64 .f32) (harg5 : arg5.IsWhole) (arg6 : Memref sig .tc .vmem S1x64 .f32)
    (harg6 : arg6.IsWhole) (arg7 : Memref sig .tc .vmem S1x64 .f32) (harg7 : arg7.IsWhole) (arg8 : Memref sig .tc .vmem S1x64 .f32)
    (harg8 : arg8.IsWhole) (arg9 : Memref sig .tc .vmem S64x128 .f32) (harg9 : arg9.IsWhole) (arg10 : Memref sig .tc .vmem S1x128 .f32)
    (harg10 : arg10.IsWhole) (arg11 : Memref sig .tc .vmem S1x128 .f32) (harg11 : arg11.IsWhole)
    (arg12 : Memref sig .tc .vmem S1x128 .f32) (harg12 : arg12.IsWhole) (arg13 : Memref sig .tc .vmem S128x384 .f32)
    (harg13 : arg13.IsWhole) (arg14 : Memref sig .tc .vmem S1x384 .f32) (harg14 : arg14.IsWhole)
    (arg15 : Memref sig .tc .vmem S128x128 .f32) (harg15 : arg15.IsWhole) (arg16 : Memref sig .tc .vmem S1x128 .f32)
    (harg16 : arg16.IsWhole) (arg17 : Memref sig .tc .vmem S128x128 .f32) (harg17 : arg17.IsWhole)
    (arg18 : Memref sig .tc .vmem S1x128 .f32) (harg18 : arg18.IsWhole) (arg19 : Memref sig .tc .vmem S128x32 .f32)
    (harg19 : arg19.IsWhole) (arg20 : Memref sig .tc .vmem S1x32 .f32) (harg20 : arg20.IsWhole)
    (arg21 : Memref sig .tc .vmem S32x32 .f32) (harg21 : arg21.IsWhole) (arg22 : Memref sig .tc .vmem S8192x384 .bf16)
    (harg22 : arg22.IsWhole) (arg23 : Memref sig .tc .vmem S128x8192 .bf16) (harg23 : arg23.IsWhole)
    (arg24 : Memref sig .tc .vmem S32x128 .f32) (harg24 : arg24.IsWhole) (arg25 : Memref sig .tc .vmem S32x1 .f32)
    (harg25 : arg25.IsWhole)
    (x0 : Vec F S8192x3 .f32) (x1 : Vec F S32x256 .f32) (x2 : Vec F S2048x128 .bf16) (x3 : Vec F S8x128 .f32) (x4 : Vec F S3x64 .f32)
    (x5 : Vec F S1x64 .f32) (x6 : Vec F S1x64 .f32) (x7 : Vec F S1x64 .f32) (x8 : Vec F S64x128 .f32) (x9 : Vec F S1x128 .f32)
    (x10 : Vec F S1x128 .f32) (x11 : Vec F S1x128 .f32) (x12 : Vec F S128x384 .f32) (x13 : Vec F S1x384 .f32)
    (x14 : Vec F S128x128 .f32) (x15 : Vec F S1x128 .f32) (x16 : Vec F S128x128 .f32) (x17 : Vec F S1x128 .f32)
    (x18 : Vec F S128x32 .f32) (x19 : Vec F S1x32 .f32) :
    out0_A_20 c i
      arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19 arg20 harg20 arg21 harg21
      arg22 harg22 arg23 harg23 arg24 harg24 arg25 harg25 x0 x1 x2 x3 x4 x5 x6 x7 x8 x9 x10 x11 x12 x13 x14 x15 x16 x17 x18 x19
    = outBlock x0 x1 x2 x4 x5 x6 x7 x8 x9 x10 x11 x12 x13 x14 x15 x16 x17 x18 x19 := by
  have hm : ∀ s : Fin 32, arg2.view.readAt (Elt F) (rectM s).toLoadRect (harg2.unread x1) = fun j => x1 ((rectM s).toLoadRect.idx j) :=
    fun s => by funext j; rw [View.readAt_apply, harg2.read_unread]
  refine (out_loads c i _ harg1 _ harg2 _ harg3 _ harg4 _ harg5 _ harg6 _ harg7 _ harg8 _ harg9 _ harg10 _ harg11 _ harg12 _ harg13 _ harg14
    _ harg15 _ harg16 _ harg17 _ harg18 _ harg19 _ harg20 _ harg21 _ harg22 _ harg23 _ harg24 _ harg25
    x0 x1 x2 x3 x4 x5 x6 x7 x8 x9 x10 x11 x12 x13 x14 x15 x16 x17 x18 x19).trans ?_
  refine (View.read_writes_junk_eq_canon (Val := Elt F) VO0_20 _).trans ?_
  refine (canon_whole2 _).trans ?_
  simp only [all2_eq, hm]
  have hz : ∀ (Z : FVec F S8192x384 .bf16) (B : LoadRect S8192x384),
      arg22.view.readCov (whole2 Z) B = fun j => Z (B.idx j) := fun Z B => by rw [View.readCov_eq_canon', canon_whole2]
  have hk : ∀ (Z : FVec F S128x8192 .bf16) (B : LoadRect S128x8192),
      arg23.view.readCov (whole2 Z) B = fun j => Z (B.idx j) := fun Z B => by rw [View.readCov_eq_canon', canon_whole2]
  simp only [hz, hk]
  unfold outBlock sumsAll rowsAll
  rw [back2_eq, back2_eq]
  rfl

end Run

end Cert.KernelIdeal.Faces

end
-- ==== Proof.Result.lean ====
/- The result array after the run: every face's result, of the arguments. -/
module

public import proofs.«01_k».proof.Proof.EntryWeights
public import proofs.«01_k».proof.Proof.Body

@[expose] public section

set_option maxRecDepth 16384

noncomputable section

namespace Cert.KernelIdeal.Faces

open Idealize.ShloMosaic Idealize.ShloMosaic.TcCoe Idealize.SL.Sem Cert.KernelIdeal Cert.KernelIdeal.Gen Cert.Face Cert.KernelIdeal.Value

variable (m : (ℓ : Loc nD τ sig) → Buf (Elt Ideal) ℓ) (c : Dev nD)

/-- All faces' results. -/
def results : S512x32.Idx → EReal := fun i =>
  face' (weightsOf (arg m c main_arg1) (arg m c main_arg2) (arg m c main_arg3) (arg m c main_arg4) (arg m c main_arg5) (arg m c main_arg6)
      (arg m c main_arg7) (arg m c main_arg8) (arg m c main_arg9) (arg m c main_arg10) (arg m c main_arg11) (arg m c main_arg12)
      (arg m c main_arg13) (arg m c main_arg14) (arg m c main_arg15) (arg m c main_arg16))
    (featOf (arg m c main_arg0) (i 0)) (maskOf (arg m c main_arg0) (i 0)) (i 1)

/-- The weights that a grid point reads are the program's. -/
theorem blk_weights (t : Fin cfg0.N) : blockWeights (iblk m c 4 t) (iblk m c 5 t) (iblk m c 6 t) (iblk m c 7 t) (iblk m c 8 t) (iblk m c 9 t) (iblk m c 10 t)
      (iblk m c 11 t) (iblk m c 12 t) (iblk m c 13 t) (iblk m c 14 t) (iblk m c 15 t) (iblk m c 16 t) (iblk m c 17 t)
      (iblk m c 18 t) (iblk m c 19 t)
    = weightsOf (arg m c main_arg1) (arg m c main_arg2) (arg m c main_arg3) (arg m c main_arg4) (arg m c main_arg5) (arg m c main_arg6)
      (arg m c main_arg7) (arg m c main_arg8) (arg m c main_arg9) (arg m c main_arg10) (arg m c main_arg11) (arg m c main_arg12)
      (arg m c main_arg13) (arg m c main_arg14) (arg m c main_arg15) (arg m c main_arg16) :=
  (blk_weights_host m c t).trans (host_weights m c)

/-- What grid point `t` leaves at row `s`, column `j`. -/
theorem point_at (t : Fin cfg0.N) (s j : Fin 32) : (outsAt0 m c t : S32x32.Idx → EReal) (ix2 s j) = results m c (ix2 (faceNo t s) j) := by
  have h : (outsAt0 m c t : S32x32.Idx → EReal) = outBlock (F := Ideal) (iblk m c 0 t) (iblk m c 1 t) (iblk m c 2 t) (iblk m c 4 t) (iblk m c 5 t)
      (iblk m c 6 t) (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) := by
    unfold outsAt0
    exact out_eq ..
  rw [h]
  refine (outBlock_at _ _ _ _ _ _ _ _ _ _ _ _ _ _ _ _ _ _ _ (fun x k a l hx => blk_hmask m c t x k a l hx) s j).trans ?_
  have hf : (fun l d => (iblk m c 0 t : S8192x3.Idx → EReal) (ix2 (pointNo s l) d)) = featOf (arg m c main_arg0) (faceNo t s) :=
    funext fun l => funext fun d => blk_feat m c t s l d
  have hm : (fun l => (iblk m c 1 t : S32x256.Idx → EReal) (ix2 s l)) = maskOf (arg m c main_arg0) (faceNo t s) :=
    funext fun l => blk_mask m c t s l
  rw [blk_weights]
  exact congrArg₂ (fun a b => face' _ a b j) hf hm

/-- What grid point `t` leaves, at a position of its block. -/
theorem point_of (t : Fin cfg0.N) (y : S32x32.Idx) :
    ((dats m 0 c).after 20 t : S32x32.Idx → EReal) y = results m c (ix2 (faceNo t (y 0)) (y 1)) := by
  have hy : y = ix2 (y 0) (y 1) := by funext a; fin_cases a <;> rfl
  rw [after0_20]
  exact (congrArg (outsAt0 m c t : S32x32.Idx → EReal) hy).trans (point_at m c t (y 0) (y 1))

/-- The result array after the run. -/
theorem array : ((dats m 0 c).arrAt 20 cfg0.N : S512x32.Idx → EReal) = results m c := by
  refine (dats m 0 c).arrAt_eq_of_covers 20 _ (by decide +kernel) fun t hf y => ?_
  blk_simp
  have he : (win0_20.blk t).view.emb y = ix2 (faceNo t (y 0)) (y 1) := by
    blk_ext [idx t]
    exact (Nat.mul_comm _ _ ▸ rfl)
  exact (point_of m c t y).trans (congrArg (results m c) he.symm)

end Cert.KernelIdeal.Faces

end
-- ==== Proof.Finite.lean ====
/- What the precondition says of the arguments: the arrays it names hold real numbers. -/
module

public import proofs.«01_k».proof.Proof.Consts
public import proofs.«01_k».proof.Proof.Args
public import proofs.«01_k».proof.Proof.Gen.Pre_finite
public import Idealize.ShloMosaic.Lib.Pointwise.Select

@[expose] public section

set_option maxRecDepth 16384

noncomputable section

namespace Cert.Face

open Idealize.ShloMosaic Cert.Pre_finite

/-- The precondition's test at one entry: `|x| < ∞` makes `x` real. -/
theorem isReal_of_test {x : EReal}
    (h : Ideal.cmp .olt (Max.max x (-x)) (Ideal.ofBits .f32 0x7F800000#32) = (1#1 : BitVec 1)) : IsReal x := by
  rw [word_inf] at h
  exact IsReal.of_abs_lt ((Ideal.cmp_olt_eq_one _ _).mp h)

variable (x0 : Points) (x1 : Arr2 3 64) (x2 x3 x4 : Arr1 64) (x5 : Arr2 64 128) (x6 x7 x8 : Arr1 128) (x9 : Arr2 128 384)
  (x10 : Arr1 384) (x11 : Arr2 128 128) (x12 : Arr1 128) (x13 : Arr2 128 128) (x14 : Arr1 128) (x15 : Arr2 128 32) (x16 : Arr1 32)

/-- The precondition, all six tests passed, makes the weights finite where the proof needs it. -/
theorem finite_of_pre
    (h0 : (fn (F := Ideal) x0 x1 x2 x3 x4 x5 x6 x7 x8 x9 x10 x11 x12 x13 x14 x15 x16).1 = fun _ => 1#1)
    (h1 : (fn (F := Ideal) x0 x1 x2 x3 x4 x5 x6 x7 x8 x9 x10 x11 x12 x13 x14 x15 x16).2.1 = fun _ => 1#1)
    (h2 : (fn (F := Ideal) x0 x1 x2 x3 x4 x5 x6 x7 x8 x9 x10 x11 x12 x13 x14 x15 x16).2.2.1 = fun _ => 1#1)
    (h3 : (fn (F := Ideal) x0 x1 x2 x3 x4 x5 x6 x7 x8 x9 x10 x11 x12 x13 x14 x15 x16).2.2.2.1 = fun _ => 1#1)
    (h4 : (fn (F := Ideal) x0 x1 x2 x3 x4 x5 x6 x7 x8 x9 x10 x11 x12 x13 x14 x15 x16).2.2.2.2.1 = fun _ => 1#1)
    (h5 : (fn (F := Ideal) x0 x1 x2 x3 x4 x5 x6 x7 x8 x9 x10 x11 x12 x13 x14 x15 x16).2.2.2.2.2 = fun _ => 1#1) :
    (weightsOf x1 x2 x3 x4 x5 x6 x7 x8 x9 x10 x11 x12 x13 x14 x15 x16).Finite where
  g2 j := isReal_of_test (congrFun h0 (ix1 j))
  c2 j := isReal_of_test (congrFun h1 (ix1 j))
  Wv i c := by
    have e : x9 (ix2 i (vcol c)) = extractStridedSlice S128x128 ![0, 256] x9 Gen.slices_S128x384_S128x128_0_256 (ix2 i c) :=
      congrArg x9 (by funext a; fin_cases a <;> apply Fin.ext <;> simp [ix2, vcol])
    exact (congrArg IsReal e).mpr (isReal_of_test (congrFun h2 (ix2 i c)))
  bv c := by
    have e : x10 (ix1 (vcol c)) = extractStridedSlice S128 ![256] x10 Gen.slices_S384_S128_256 (ix1 c) :=
      congrArg x10 (by funext a; fin_cases a; apply Fin.ext; simp [ix1, vcol])
    exact (congrArg IsReal e).mpr (isReal_of_test (congrFun h3 (ix1 c)))
  Wo i j := isReal_of_test (congrFun h4 (ix2 i j))
  bo j := isReal_of_test (congrFun h5 (ix1 j))

end Cert.Face

end
-- ==== Proof.RefValue.lean ====
/- The reference's result, face by face: every operation of the program read at an index, up to `face`. -/
module

public import proofs.«01_k».proof.Proof.Args
public import proofs.«01_k».proof.Proof.Gen.ReferenceIdeal.Read

@[expose] public section

set_option maxRecDepth 16384

noncomputable section

namespace Cert.ReferenceIdeal.Faces

open Idealize.ShloMosaic Idealize.ShloMosaic.ValueIdx Cert.ReferenceIdeal Cert.ReferenceIdeal.Read Cert.Face

variable (x0 : Points) (x1 : Arr2 3 64) (x2 x3 x4 : Arr1 64) (x5 : Arr2 64 128) (x6 x7 x8 : Arr1 128) (x9 : Arr2 128 384)
  (x10 : Arr1 384) (x11 : Arr2 128 128) (x12 : Arr1 128) (x13 : Arr2 128 128) (x14 : Arr1 128) (x15 : Arr2 128 32) (x16 : Arr1 32)

/-- The zero word is zero. -/
theorem zero_word : Ideal.ofBits .f32 0x00000000#32 = 0 := Ideal.ofBits_zero_f32

/-- A point's entries, read from the flattened grid. -/
theorem grid (i : S512x256x4.Idx) : val_main_v0 (F := Ideal) x0 i = point x0 (i 0) (i 1) (i 2) := by
  rw [val_main_v0_apply]
  refine congrArg x0 ((eq_ix4 _).trans ?_)
  have h0 : (i 0).val < 512 := (i 0).isLt
  have h1 : (i 1).val < 256 := (i 1).isLt
  have h2 : (i 2).val < 4 := (i 2).isLt
  congr 1 <;> apply Fin.ext
  all_goals
    simp only []
    try rfl
    try omega

theorem feat (i : S512x256x3.Idx) : val_main_v1 (F := Ideal) x0 i = featOf x0 (i 0) (i 1) (i 2) := by
  rw [val_main_v1_apply, grid]
  rfl

theorem mask (i : S512x256.Idx) : val_main_v3 (F := Ideal) x0 i = maskOf x0 (i 0) (i 1) := by
  rw [val_main_v3_apply, val_main_v2_apply, grid]
  have h0 : (i 0).val < 512 := (i 0).isLt
  have h1 : (i 1).val < 256 := (i 1).isLt
  unfold maskOf
  congr 1 <;> apply Fin.ext
  all_goals
    simp only []
    try rfl
    try omega

/-- The first dense layer. -/
theorem lin1 (i : S512x256x64.Idx) : val_main_v7 (F := Ideal) x0 x1 x2 i
    = dense (featOf x0 (i 0) (i 1)) (fun a b => x1 (ix2 a b)) (fun j => x2 (ix1 j)) (i 2) := by
  rw [val_main_v7_apply, val_main_v4_apply, val_main_v6_apply, val_main_v5_apply]
  refine congrArg₂ (fun a b : EReal => a + b) (Finset.sum_congr rfl fun k _ => ?_) (congrArg x2 (eq_ix1 _))
  rw [feat]
  exact congrArg₂ (fun a b : EReal => a * b) rfl (congrArg x1 (eq_ix2 _))

theorem mean1 (i : S512x256x1.Idx) : val_main_v11 (F := Ideal) x0 x1 x2 i
    = mean 64 (dense (featOf x0 (i 0) (i 1)) (fun a b => x1 (ix2 a b)) (fun j => x2 (ix1 j))) := by
  rw [val_main_v11_apply, val_main_v9_apply, val_main_v8_apply, val_main_v10_apply, val_main_cst_apply, val_main_cst_0_apply]
  simp only [lin1]
  show Ideal.div (Ideal.ofBits .f32 0x00000000#32 + _) (Ideal.ofBits .f32 0x42800000#32) = _
  rw [zero_word, zero_add, word_64]
  rfl

theorem spread1 (i : S512x256x1.Idx) : val_main_v18 (F := Ideal) x0 x1 x2 i
    = spread 64 (dense (featOf x0 (i 0) (i 1)) (fun a b => x1 (ix2 a b)) (fun j => x2 (ix1 j))) := by
  rw [val_main_v18_apply, val_main_v16_apply, val_main_v15_apply, val_main_v17_apply, val_main_cst_1_apply, val_main_cst_2_apply]
  simp only [val_main_v14_apply, val_main_v13_apply, val_main_v12_apply, lin1, mean1]
  show Ideal.div (Ideal.ofBits .f32 0x00000000#32 + _) (Ideal.ofBits .f32 0x42800000#32) = _
  rw [zero_word, zero_add, word_64]
  rfl

/-- The first hidden layer. -/
theorem hid1 (i : S512x256x64.Idx) : val_main_v32 (F := Ideal) x0 x1 x2 x3 x4 i
    = hidden1 (weightsOf x1 x2 x3 x4 x5 x6 x7 x8 x9 x10 x11 x12 x13 x14 x15 x16) (featOf x0 (i 0) (i 1)) (i 2) := by
  rw [val_main_v32_apply, val_main_v31_apply, val_main_v28_apply, val_main_v25_apply, val_main_v20_apply, val_main_v19_apply,
    val_main_v24_apply, val_main_v23_apply, val_main_v22_apply, val_main_v21_apply, val_main_v27_apply, val_main_v26_apply,
    val_main_v30_apply, val_main_v29_apply, val_main_call0_v0_apply, val_main_call0_cst_apply, val_main_cst_3_apply,
    lin1, mean1, spread1]
  refine congrArg₂ (fun a b : EReal => max a b) (congrArg₂ (fun a b : EReal => a + b) (congrArg₂ (fun a b : EReal => a * b) rfl
    (congrArg x3 (eq_ix1 _))) (congrArg x4 (eq_ix1 _))) zero_word

/-- The second dense layer. -/
theorem lin2 (i : S512x256x128.Idx) : val_main_v36 (F := Ideal) x0 x1 x2 x3 x4 x5 x6 i
    = dense (hidden1 (weightsOf x1 x2 x3 x4 x5 x6 x7 x8 x9 x10 x11 x12 x13 x14 x15 x16) (featOf x0 (i 0) (i 1)))
      (fun a b => x5 (ix2 a b)) (fun j => x6 (ix1 j)) (i 2) := by
  rw [val_main_v36_apply, val_main_v33_apply, val_main_v35_apply, val_main_v34_apply]
  refine congrArg₂ (fun a b : EReal => a + b) (Finset.sum_congr rfl fun k _ => ?_) (congrArg x6 (eq_ix1 _))
  rw [hid1 x0 x1 x2 x3 x4 x5 x6 x7 x8 x9 x10 x11 x12 x13 x14 x15 x16]
  exact congrArg₂ (fun a b : EReal => a * b) rfl (congrArg x5 (eq_ix2 _))

theorem mean2 (i : S512x256x1.Idx) : val_main_v40 (F := Ideal) x0 x1 x2 x3 x4 x5 x6 i
    = mean 128 (dense (hidden1 (weightsOf x1 x2 x3 x4 x5 x6 x7 x8 x9 x10 x11 x12 x13 x14 x15 x16) (featOf x0 (i 0) (i 1)))
      (fun a b => x5 (ix2 a b)) (fun j => x6 (ix1 j))) := by
  rw [val_main_v40_apply, val_main_v38_apply, val_main_v37_apply, val_main_v39_apply, val_main_cst_4_apply, val_main_cst_5_apply]
  simp only [lin2 x0 x1 x2 x3 x4 x5 x6 x7 x8 x9 x10 x11 x12 x13 x14 x15 x16]
  show Ideal.div (Ideal.ofBits .f32 0x00000000#32 + _) (Ideal.ofBits .f32 0x43000000#32) = _
  rw [zero_word, zero_add, word_128]
  rfl

theorem spread2 (i : S512x256x1.Idx) : val_main_v47 (F := Ideal) x0 x1 x2 x3 x4 x5 x6 i
    = spread 128 (dense (hidden1 (weightsOf x1 x2 x3 x4 x5 x6 x7 x8 x9 x10 x11 x12 x13 x14 x15 x16) (featOf x0 (i 0) (i 1)))
      (fun a b => x5 (ix2 a b)) (fun j => x6 (ix1 j))) := by
  rw [val_main_v47_apply, val_main_v45_apply, val_main_v44_apply, val_main_v46_apply, val_main_cst_6_apply, val_main_cst_7_apply]
  simp only [val_main_v43_apply, val_main_v42_apply, val_main_v41_apply,
    lin2 x0 x1 x2 x3 x4 x5 x6 x7 x8 x9 x10 x11 x12 x13 x14 x15 x16, mean2 x0 x1 x2 x3 x4 x5 x6 x7 x8 x9 x10 x11 x12 x13 x14 x15 x16]
  show Ideal.div (Ideal.ofBits .f32 0x00000000#32 + _) (Ideal.ofBits .f32 0x43000000#32) = _
  rw [zero_word, zero_add, word_128]
  rfl

/-- The second hidden layer. -/
theorem hid2 (i : S512x256x128.Idx) : val_main_v61 (F := Ideal) x0 x1 x2 x3 x4 x5 x6 x7 x8 i
    = hidden2 (weightsOf x1 x2 x3 x4 x5 x6 x7 x8 x9 x10 x11 x12 x13 x14 x15 x16) (featOf x0 (i 0) (i 1)) (i 2) := by
  rw [val_main_v61_apply, val_main_v60_apply, val_main_v57_apply, val_main_v54_apply, val_main_v49_apply, val_main_v48_apply,
    val_main_v53_apply, val_main_v52_apply, val_main_v51_apply, val_main_v50_apply, val_main_v56_apply, val_main_v55_apply,
    val_main_v59_apply, val_main_v58_apply, val_main_call1_v0_apply, val_main_call1_cst_apply, val_main_cst_8_apply,
    lin2 x0 x1 x2 x3 x4 x5 x6 x7 x8 x9 x10 x11 x12 x13 x14 x15 x16, mean2 x0 x1 x2 x3 x4 x5 x6 x7 x8 x9 x10 x11 x12 x13 x14 x15 x16,
    spread2 x0 x1 x2 x3 x4 x5 x6 x7 x8 x9 x10 x11 x12 x13 x14 x15 x16]
  refine congrArg₂ (fun a b : EReal => max a b) (congrArg₂ (fun a b : EReal => a + b) (congrArg₂ (fun a b : EReal => a * b) rfl
    (congrArg x7 (eq_ix1 _))) (congrArg x8 (eq_ix1 _))) zero_word

/-- The queries, keys and values. -/
theorem proj (i : S512x256x384.Idx) : val_main_v65 (F := Ideal) x0 x1 x2 x3 x4 x5 x6 x7 x8 x9 x10 i
    = qkv (weightsOf x1 x2 x3 x4 x5 x6 x7 x8 x9 x10 x11 x12 x13 x14 x15 x16) (featOf x0 (i 0) (i 1)) (i 2) := by
  rw [val_main_v65_apply, val_main_v62_apply, val_main_v64_apply, val_main_v63_apply]
  refine congrArg₂ (fun a b : EReal => a + b) (Finset.sum_congr rfl fun k _ => ?_) (congrArg x10 (eq_ix1 _))
  rw [hid2 x0 x1 x2 x3 x4 x5 x6 x7 x8 x9 x10 x11 x12 x13 x14 x15 x16]
  exact congrArg₂ (fun a b : EReal => a * b) rfl (congrArg x9 (eq_ix2 _))

/-- A face's queries, keys and values. -/
abbrev rows (n : Fin 512) (l : Fin 256) : Fin 384 → EReal := qkv (weightsOf x1 x2 x3 x4 x5 x6 x7 x8 x9 x10 x11 x12 x13 x14 x15 x16) (featOf x0 n l)

theorem split (n : Fin 512) (l : Fin 256) {j k : Fin 384} (h : j.val = k.val) : rows x0 x1 x2 x3 x4 x5 x6 x7 x8 x9 x10 x11 x12 x13 x14 x15 x16 n l j = rows x0 x1 x2 x3 x4 x5 x6 x7 x8 x9 x10 x11 x12 x13 x14 x15 x16 n l k :=
  congrArg _ (Fin.ext h)

theorem quer (i : S512x8x256x16.Idx) : val_main_v70 (F := Ideal) x0 x1 x2 x3 x4 x5 x6 x7 x8 x9 x10 i = rows x0 x1 x2 x3 x4 x5 x6 x7 x8 x9 x10 x11 x12 x13 x14 x15 x16 (i 0) (i 2) (qcol (i 1) (i 3)) := by
  rw [val_main_v70_apply, val_main_v69_apply, val_main_v66_apply, proj x0 x1 x2 x3 x4 x5 x6 x7 x8 x9 x10 x11 x12 x13 x14 x15 x16]
  have h0 : (i 0).val < 512 := (i 0).isLt
  have h1 : (i 1).val < 8 := (i 1).isLt
  have h2 : (i 2).val < 256 := (i 2).isLt
  have h3 : (i 3).val < 16 := (i 3).isLt
  refine congr (congrArg (fun v => qkv (weightsOf x1 x2 x3 x4 x5 x6 x7 x8 x9 x10 x11 x12 x13 x14 x15 x16) v) (congr (congrArg _ (Fin.ext ?_)) (Fin.ext ?_))) (Fin.ext ?_)
  all_goals
    simp only [qcol]
    try rfl
    try omega

theorem keys (i : S512x8x256x16.Idx) : val_main_v72 (F := Ideal) x0 x1 x2 x3 x4 x5 x6 x7 x8 x9 x10 i = rows x0 x1 x2 x3 x4 x5 x6 x7 x8 x9 x10 x11 x12 x13 x14 x15 x16 (i 0) (i 2) (kcol (i 1) (i 3)) := by
  rw [val_main_v72_apply, val_main_v71_apply, val_main_v67_apply, proj x0 x1 x2 x3 x4 x5 x6 x7 x8 x9 x10 x11 x12 x13 x14 x15 x16]
  have h0 : (i 0).val < 512 := (i 0).isLt
  have h1 : (i 1).val < 8 := (i 1).isLt
  have h2 : (i 2).val < 256 := (i 2).isLt
  have h3 : (i 3).val < 16 := (i 3).isLt
  refine congr (congrArg (fun v => qkv (weightsOf x1 x2 x3 x4 x5 x6 x7 x8 x9 x10 x11 x12 x13 x14 x15 x16) v) (congr (congrArg _ (Fin.ext ?_)) (Fin.ext ?_))) (Fin.ext ?_)
  all_goals
    simp only [kcol]
    try rfl
    try omega

/-- Column `d` of head `h`, in a row of values. -/
abbrev hcol (h : Fin 8) (d : Fin 16) : Fin 128 := ⟨16 * h.val + d.val, by omega⟩

theorem vals (i : S512x8x256x16.Idx) : val_main_v74 (F := Ideal) x0 x1 x2 x3 x4 x5 x6 x7 x8 x9 x10 i = rows x0 x1 x2 x3 x4 x5 x6 x7 x8 x9 x10 x11 x12 x13 x14 x15 x16 (i 0) (i 2) (vcol (hcol (i 1) (i 3))) := by
  rw [val_main_v74_apply, val_main_v73_apply, val_main_v68_apply, proj x0 x1 x2 x3 x4 x5 x6 x7 x8 x9 x10 x11 x12 x13 x14 x15 x16]
  have h0 : (i 0).val < 512 := (i 0).isLt
  have h1 : (i 1).val < 8 := (i 1).isLt
  have h2 : (i 2).val < 256 := (i 2).isLt
  have h3 : (i 3).val < 16 := (i 3).isLt
  refine congr (congrArg (fun v => qkv (weightsOf x1 x2 x3 x4 x5 x6 x7 x8 x9 x10 x11 x12 x13 x14 x15 x16) v) (congr (congrArg _ (Fin.ext ?_)) (Fin.ext ?_))) (Fin.ext ?_)
  all_goals
    simp only [vcol]
    try rfl
    try omega

/-- The scores. -/
theorem scores (i : S512x8x256x256.Idx) : val_main_v75 (F := Ideal) x0 x1 x2 x3 x4 x5 x6 x7 x8 x9 x10 i = score (rows x0 x1 x2 x3 x4 x5 x6 x7 x8 x9 x10 x11 x12 x13 x14 x15 x16 (i 0)) (i 1) (i 2) (i 3) := by
  rw [val_main_v75_apply]
  refine Finset.sum_congr rfl fun k _ => ?_
  rw [quer x0 x1 x2 x3 x4 x5 x6 x7 x8 x9 x10 x11 x12 x13 x14 x15 x16, keys x0 x1 x2 x3 x4 x5 x6 x7 x8 x9 x10 x11 x12 x13 x14 x15 x16]
  rfl

/-- The weights of the attention, before they are divided by their sum. -/
theorem weights (i : S512x8x256x256.Idx) : val_main_v83 (F := Ideal) x0 x1 x2 x3 x4 x5 x6 x7 x8 x9 x10 i
    = weight (rows x0 x1 x2 x3 x4 x5 x6 x7 x8 x9 x10 x11 x12 x13 x14 x15 x16 (i 0)) (maskOf x0 (i 0)) (i 1) (i 2) (i 3) := by
  rw [val_main_v83_apply, val_main_v82_apply, val_main_v78_apply, val_main_v77_apply, val_main_v76_apply, val_main_cst_9_apply,
    val_main_call2_v1_apply, val_main_v81_apply, val_main_v80_apply, val_main_v79_apply, val_main_cst_10_apply,
    val_main_call2_v2_apply, val_main_call2_v0_apply, val_main_cst_11_apply, mask, scores x0 x1 x2 x3 x4 x5 x6 x7 x8 x9 x10 x11 x12 x13 x14 x15 x16]
  show Ideal.exp (Scalar.select (BitVec.ofBool (decide (maskOf x0 (i 0) (i 3) = Ideal.ofBits .f32 0x00000000#32)))
    (Ideal.ofBits .f32 0xFF800000#32) (Ideal.div _ (Ideal.sqrt (Ideal.ofBits .f32 0x41800000#32)))) = _
  rw [zero_word, word_neg_inf, word_four_sq, sqrt_16]
  unfold weight
  by_cases h : maskOf x0 (i 0) (i 3) = 0
  · rw [if_pos h, decide_eq_true h]; rfl
  · rw [if_neg h, decide_eq_false h]; rfl

theorem soft (i : S512x8x256x256.Idx) : val_main_v89 (F := Ideal) x0 x1 x2 x3 x4 x5 x6 x7 x8 x9 x10 i
    = Ideal.div (weight (rows x0 x1 x2 x3 x4 x5 x6 x7 x8 x9 x10 x11 x12 x13 x14 x15 x16 (i 0)) (maskOf x0 (i 0)) (i 1) (i 2) (i 3))
      ((∑ k', weight (rows x0 x1 x2 x3 x4 x5 x6 x7 x8 x9 x10 x11 x12 x13 x14 x15 x16 (i 0)) (maskOf x0 (i 0)) (i 1) (i 2) k') + tinyAttn) := by
  rw [val_main_v89_apply, val_main_v88_apply, val_main_v87_apply, val_main_v86_apply, val_main_v85_apply, val_main_v84_apply,
    val_main_cst_12_apply, val_main_cst_13_apply]
  simp only [weights x0 x1 x2 x3 x4 x5 x6 x7 x8 x9 x10 x11 x12 x13 x14 x15 x16]
  show Ideal.div _ ((Ideal.ofBits .f32 0x00000000#32 + _) + tinyAttn) = _
  rw [zero_word, zero_add]
  rfl

/-- The attention, by heads. -/
theorem heads (i : S512x8x256x16.Idx) : val_main_v90 (F := Ideal) x0 x1 x2 x3 x4 x5 x6 x7 x8 x9 x10 i
    = attend (rows x0 x1 x2 x3 x4 x5 x6 x7 x8 x9 x10 x11 x12 x13 x14 x15 x16 (i 0)) (maskOf x0 (i 0)) (i 2) (hcol (i 1) (i 3)) := by
  have h1 : (i 1).val < 8 := (i 1).isLt
  have h3 : (i 3).val < 16 := (i 3).isLt
  have hh : head (hcol (i 1) (i 3)) = i 1 := Fin.ext (by show (16 * (i 1).val + (i 3).val) / 16 = _; omega)
  rw [val_main_v90_apply]
  unfold attend
  rw [hh]
  refine Finset.sum_congr rfl fun k _ => ?_
  rw [soft x0 x1 x2 x3 x4 x5 x6 x7 x8 x9 x10 x11 x12 x13 x14 x15 x16, vals x0 x1 x2 x3 x4 x5 x6 x7 x8 x9 x10 x11 x12 x13 x14 x15 x16]
  rfl

/-- The attention, by columns. -/
theorem attended (i : S512x256x128.Idx) : val_main_v92 (F := Ideal) x0 x1 x2 x3 x4 x5 x6 x7 x8 x9 x10 i
    = attend (rows x0 x1 x2 x3 x4 x5 x6 x7 x8 x9 x10 x11 x12 x13 x14 x15 x16 (i 0)) (maskOf x0 (i 0)) (i 1) (i 2) := by
  rw [val_main_v92_apply, val_main_v91_apply, heads x0 x1 x2 x3 x4 x5 x6 x7 x8 x9 x10 x11 x12 x13 x14 x15 x16]
  have h0 : (i 0).val < 512 := (i 0).isLt
  have h1 : (i 1).val < 256 := (i 1).isLt
  have h2 : (i 2).val < 128 := (i 2).isLt
  refine congr (congr (congrArg (fun n => attend (rows x0 x1 x2 x3 x4 x5 x6 x7 x8 x9 x10 x11 x12 x13 x14 x15 x16 n) (maskOf x0 n)) (Fin.ext ?_)) (Fin.ext ?_)) (Fin.ext ?_)
  all_goals
    simp only []
    try rfl
    try omega

/-- The projected attention, masked. -/
theorem masked (i : S512x256x128.Idx) : val_main_v99 (F := Ideal) x0 x1 x2 x3 x4 x5 x6 x7 x8 x9 x10 x11 x12 i
    = dense (attend (rows x0 x1 x2 x3 x4 x5 x6 x7 x8 x9 x10 x11 x12 x13 x14 x15 x16 (i 0)) (maskOf x0 (i 0)) (i 1)) (fun a b => x11 (ix2 a b)) (fun j => x12 (ix1 j)) (i 2)
      * maskOf x0 (i 0) (i 1) := by
  rw [val_main_v99_apply, val_main_v96_apply, val_main_v93_apply, val_main_v95_apply, val_main_v94_apply, val_main_v98_apply,
    val_main_v97_apply, mask]
  refine congrArg₂ (fun a b : EReal => a * b) (congrArg₂ (fun a b : EReal => a + b) (Finset.sum_congr rfl fun k _ => ?_)
    (congrArg x12 (eq_ix1 _))) rfl
  rw [attended x0 x1 x2 x3 x4 x5 x6 x7 x8 x9 x10 x11 x12 x13 x14 x15 x16]
  exact congrArg₂ (fun a b : EReal => a * b) rfl (congrArg x11 (eq_ix2 _))

/-- The pooled face. -/
theorem pool (i : S512x128.Idx) : val_main_v105 (F := Ideal) x0 x1 x2 x3 x4 x5 x6 x7 x8 x9 x10 x11 x12 i
    = pooled (weightsOf x1 x2 x3 x4 x5 x6 x7 x8 x9 x10 x11 x12 x13 x14 x15 x16) (attend (rows x0 x1 x2 x3 x4 x5 x6 x7 x8 x9 x10 x11 x12 x13 x14 x15 x16 (i 0)) (maskOf x0 (i 0))) (maskOf x0 (i 0)) (i 1) := by
  rw [val_main_v105_apply, val_main_v100_apply, val_main_v104_apply, val_main_v103_apply, val_main_v102_apply, val_main_v101_apply,
    val_main_cst_14_apply, val_main_cst_15_apply, val_main_cst_16_apply]
  simp only [masked x0 x1 x2 x3 x4 x5 x6 x7 x8 x9 x10 x11 x12 x13 x14 x15 x16, val_main_v97_apply, mask]
  show Ideal.div (Ideal.ofBits .f32 0x00000000#32 + _) ((Ideal.ofBits .f32 0x00000000#32 + _) + tinyPool) = _
  rw [zero_word, zero_add, zero_add]
  rfl

theorem fin1 (i : S512x128.Idx) : val_main_v110 (F := Ideal) x0 x1 x2 x3 x4 x5 x6 x7 x8 x9 x10 x11 x12 x13 x14 i
    = max (dense (pooled (weightsOf x1 x2 x3 x4 x5 x6 x7 x8 x9 x10 x11 x12 x13 x14 x15 x16) (attend (rows x0 x1 x2 x3 x4 x5 x6 x7 x8 x9 x10 x11 x12 x13 x14 x15 x16 (i 0)) (maskOf x0 (i 0))) (maskOf x0 (i 0)))
      (fun a b => x13 (ix2 a b)) (fun j => x14 (ix1 j)) (i 1)) 0 := by
  rw [val_main_v110_apply, val_main_v109_apply, val_main_v106_apply, val_main_v108_apply, val_main_v107_apply,
    val_main_call3_v0_apply, val_main_call3_cst_apply]
  refine congrArg₂ (fun a b : EReal => max a b) (congrArg₂ (fun a b : EReal => a + b) (Finset.sum_congr rfl fun k _ => ?_)
    (congrArg x14 (eq_ix1 _))) zero_word
  rw [pool x0 x1 x2 x3 x4 x5 x6 x7 x8 x9 x10 x11 x12 x13 x14 x15 x16]
  exact congrArg₂ (fun a b : EReal => a * b) rfl (congrArg x13 (eq_ix2 _))

/-- The reference's result at face `i 0`, column `i 1`: the face's result of its features and mask. -/
theorem result (i : S512x32.Idx) : val_main_v114 (F := Ideal) x0 x1 x2 x3 x4 x5 x6 x7 x8 x9 x10 x11 x12 x13 x14 x15 x16 i = face (weightsOf x1 x2 x3 x4 x5 x6 x7 x8 x9 x10 x11 x12 x13 x14 x15 x16) (featOf x0 (i 0)) (maskOf x0 (i 0)) (i 1) := by
  rw [val_main_v114_apply, val_main_v111_apply, val_main_v113_apply, val_main_v112_apply]
  refine congrArg₂ (fun a b : EReal => a + b) (Finset.sum_congr rfl fun k _ => ?_) (congrArg x16 (eq_ix1 _))
  rw [fin1 x0 x1 x2 x3 x4 x5 x6 x7 x8 x9 x10 x11 x12 x13 x14 x15 x16]
  exact congrArg₂ (fun a b : EReal => a * b) rfl (congrArg x15 (eq_ix2 _))

end Cert.ReferenceIdeal.Faces

end
-- ==== Proof.Claims.lean ====
/- The claims, each on its own: the frames, the named constant, and that the kernel and the reference end equal. -/
module

public import proofs.«01_k».proof.Defs
public import proofs.«01_k».proof.Proof.Result
public import proofs.«01_k».proof.Proof.Finite
public import proofs.«01_k».proof.Proof.RefValue
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof.FaceClaims

open Idealize.ShloMosaic Idealize.ShloMosaic.TcCoe Idealize.SL.Sem Cert.Face

/-- The kernel at bits runs to its end and leaves its arguments. -/
theorem frame_p : Cert.quiescent_Kernel := fun m ρ _ => Cert.Kernel.Gen.frame m ρ

/-- The kernel at the extended reals runs to its end and leaves its arguments. -/
theorem frame_pi : Cert.quiescent_KernelIdeal := fun m ρ _ => Cert.KernelIdeal.Gen.frame m ρ

/-- The same, of memories that the precondition admits. -/
theorem frame_pi_pre : Cert.quiescent_KernelIdeal_pre_finite := fun m ρ _ => Cert.KernelIdeal.Gen.frame m ρ

/-- The reference runs to its end and leaves its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, of memories that the precondition admits. -/
theorem frame_ri_pre : Cert.quiescent_ReferenceIdeal_pre_finite := fun m ρ _ => frame_ri m ρ trivial

/-- The named constant's value is the one stated for it. -/
theorem preserves : Cert.preserves_Kernel_KernelIdeal :=
  IdealRules.named_const.statement Cert.KernelIdeal.κ "qscale" .f32 0x3EB8AA3B#32 _ rfl

/-- The reference's result, of arguments that agree with ones that the precondition admits: every face's result. -/
theorem reference_value (x0 y0 : Points) (x1 y1 : Arr2 3 64) (x2 y2 x3 y3 x4 y4 : Arr1 64) (x5 y5 : Arr2 64 128)
    (x6 y6 x7 y7 x8 y8 : Arr1 128) (x9 y9 : Arr2 128 384) (x10 y10 : Arr1 384) (x11 y11 : Arr2 128 128) (x12 y12 : Arr1 128)
    (x13 y13 : Arr2 128 128) (x14 y14 : Arr1 128) (x15 y15 : Arr2 128 32) (x16 y16 : Arr1 32)
    (hw : (weightsOf x1 x2 x3 x4 x5 x6 x7 x8 x9 x10 x11 x12 x13 x14 x15 x16).Finite)
    (a : y0 = x0 ∧ y1 = x1 ∧ y2 = x2 ∧ y3 = x3 ∧ y4 = x4 ∧ y5 = x5 ∧ y6 = x6 ∧ y7 = x7 ∧ y8 = x8 ∧ y9 = x9 ∧ y10 = x10
      ∧ y11 = x11 ∧ y12 = x12 ∧ y13 = x13 ∧ y14 = x14 ∧ y15 = x15 ∧ y16 = x16) :
    Cert.ReferenceIdeal.Read.val_main_v114 (F := Ideal) y0 y1 y2 y3 y4 y5 y6 y7 y8 y9 y10 y11 y12 y13 y14 y15 y16
      = fun i : Cert.ReferenceIdeal.S512x32.Idx => face' (weightsOf x1 x2 x3 x4 x5 x6 x7 x8 x9 x10 x11 x12 x13 x14 x15 x16)
          (featOf x0 (i 0)) (maskOf x0 (i 0)) (i 1) := by
  obtain ⟨rfl, rfl, rfl, rfl, rfl, rfl, rfl, rfl, rfl, rfl, rfl, rfl, rfl, rfl, rfl, rfl, rfl⟩ := a
  funext i
  rw [Cert.ReferenceIdeal.Faces.result, face'_eq _ hw]

/-- The kernel and the reference end with equal results, of arguments that agree and that the precondition admits. -/
theorem algebraic : Cert.algebraic_KernelIdeal_ReferenceIdeal_pre_finite := by
  intro m ρ m' ρ' hpre hagree
  refine ⟨fun c => Cert.KernelIdeal.Faces.results m c, ?_, ?_⟩
  · exact (θ_run Cert.KernelIdeal.defs _ _).mono (fun _ h c => ⟨(h c).1.trans (Cert.KernelIdeal.Faces.array m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v114_eq (StableHlo.launchContents m' c)).trans ?_
    obtain ⟨p0, p1, p2, p3, p4, p5⟩ := hpre c
    exact reference_value _ _ _ _ _ _ _ _ _ _ _ _ _ _ _ _ _ _ _ _ _ _ _ _ _ _ _ _ _ _ _ _ _ _
      (finite_of_pre _ _ _ _ _ _ _ _ _ _ _ _ _ _ _ _ _ p0 p1 p2 p3 p4 p5) (hagree c)

end Cert.Proof.FaceClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim :=
  ⟨Cert.Kernel.Gen.facts, Cert.KernelIdeal.Gen.facts, Cert.ReferenceIdeal.Gen.facts, Cert.Pre_finite.Gen.facts,
    FaceClaims.frame_p, FaceClaims.frame_pi, FaceClaims.frame_pi_pre, FaceClaims.frame_ri, FaceClaims.frame_ri_pre,
    FaceClaims.preserves, FaceClaims.algebraic⟩

end Cert.Proof

end
